-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x5120x2560 : Shape := ⟨3, ![2, 5120, 2560]⟩
abbrev S5120 : Shape := ⟨1, ![5120]⟩
abbrev S32000x2560 : Shape := ⟨2, ![32000, 2560]⟩
abbrev S32000 : Shape := ⟨1, ![32000]⟩
abbrev S5120x1 : Shape := ⟨2, ![5120, 1]⟩
abbrev S5120x128 : Shape := ⟨2, ![5120, 128]⟩
abbrev S_ : Shape := ⟨0, ![]⟩
abbrev S32256 : Shape := ⟨1, ![32256]⟩
abbrev S63x1x512 : Shape := ⟨3, ![63, 1, 512]⟩
abbrev S5000x1x32000 : Shape := ⟨3, ![5000, 1, 32000]⟩
abbrev S5000x1 : Shape := ⟨2, ![5000, 1]⟩
abbrev S2x1024x2560 : Shape := ⟨3, ![2, 1024, 2560]⟩
abbrev S1024x128 : Shape := ⟨2, ![1024, 128]⟩
abbrev S512x2560 : Shape := ⟨2, ![512, 2560]⟩
abbrev S1x1x512 : Shape := ⟨3, ![1, 1, 512]⟩
abbrev S1024x1x512 : Shape := ⟨3, ![1024, 1, 512]⟩
abbrev S1024x1 : Shape := ⟨2, ![1024, 1]⟩
abbrev S7x512x2560 : Shape := ⟨3, ![7, 512, 2560]⟩
abbrev S1x512x2560 : Shape := ⟨3, ![1, 512, 2560]⟩
abbrev S256x2560 : Shape := ⟨2, ![256, 2560]⟩
abbrev S512x256 : Shape := ⟨2, ![512, 256]⟩
abbrev S512x128 : Shape := ⟨2, ![512, 128]⟩
abbrev S1x1x128 : Shape := ⟨3, ![1, 1, 128]⟩
abbrev S1x128 : Shape := ⟨2, ![1, 128]⟩
abbrev S512x1x128 : Shape := ⟨3, ![512, 1, 128]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S2x5120x2560, .i8⟩
  | .hbm, ⟨1, _⟩ => ⟨S5120, .f32⟩
  | .hbm, ⟨2, _⟩ => ⟨S32000x2560, .i8⟩
  | .hbm, ⟨3, _⟩ => ⟨S32000, .f32⟩
  | .hbm, ⟨4, _⟩ => ⟨S5120x1, .f32⟩
  | .hbm, ⟨5, _⟩ => ⟨S5120x128, .f32⟩
  | .hbm, ⟨6, _⟩ => ⟨S_, .i32⟩
  | .hbm, ⟨7, _⟩ => ⟨S_, .f32⟩
  | .hbm, ⟨8, _⟩ => ⟨S32256, .f32⟩
  | .hbm, ⟨9, _⟩ => ⟨S63x1x512, .f32⟩
  | .hbm, ⟨10, _⟩ => ⟨S5000x1x32000, .f32⟩
  | .hbm, ⟨11, _⟩ => ⟨S5000x1, .i32⟩
  | .hbm, ⟨12, _⟩ => ⟨S5000x1, .f32⟩
  | .hbm, ⟨13, _⟩ => ⟨S5000x1, .f32⟩
  | .local _ .vmem, ⟨0, _⟩ => ⟨S2x1024x2560, .i8⟩
  | .local _ .vmem, ⟨1, _⟩ => ⟨S1024x128, .f32⟩
  | .local _ .vmem, ⟨2, _⟩ => ⟨S1024x128, .f32⟩
  | .local _ .vmem, ⟨3, _⟩ => ⟨S512x2560, .i8⟩
  | .local _ .vmem, ⟨4, _⟩ => ⟨S512x2560, .i8⟩
  | .local _ .vmem, ⟨5, _⟩ => ⟨S1x1x512, .f32⟩
  | .local _ .vmem, ⟨6, _⟩ => ⟨S1x1x512, .f32⟩
  | .local _ .vmem, ⟨7, _⟩ => ⟨S1024x1x512, .f32⟩
  | .local _ .vmem, ⟨8, _⟩ => ⟨S1024x1x512, .f32⟩
  | .local _ .vmem, ⟨9, _⟩ => ⟨S1024x1, .i32⟩
  | .local _ .vmem, ⟨10, _⟩ => ⟨S1024x1, .i32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S7x512x2560, .bf16⟩
  | .local _ .vmem, ⟨16, _⟩ => ⟨S1024x128, .f32⟩
  | .local _ .vmem, ⟨17, _⟩ => ⟨S1024x128, .f32⟩
  | .local _ .vmem, ⟨18, _⟩ => ⟨S1024x128, .i32⟩
  | _, _ => ⟨S2x5120x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![5, 63], ![false, false]⟩

def k0_cond2 (i : grid0.Coords) : BitVec 1 :=
  let arg1 : BitVec 32 := BitVec.ofNat 32 (i 1).val
  let c62_i32 : BitVec 32 := 62#32
  let v270 : BitVec 1 := Scalar.cmpi .eq arg1 c62_i32
  let v271 : BitVec 32 := Scalar.extui v270
  let c0_i32_134 : BitVec 32 := 0#32
  let v272 : BitVec 1 := Scalar.cmpi .ne v271 c0_i32_134
  v272

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2x1024x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x5120x2560 : Shape := ⟨3, ![2, 5120, 2560]⟩
abbrev S5120 : Shape := ⟨1, ![5120]⟩
abbrev S32000x2560 : Shape := ⟨2, ![32000, 2560]⟩
abbrev S32000 : Shape := ⟨1, ![32000]⟩
abbrev S5000x1x32000 : Shape := ⟨3, ![5000, 1, 32000]⟩
abbrev S5000x1 : Shape := ⟨2, ![5000, 1]⟩
abbrev S1x5000x2560 : Shape := ⟨3, ![1, 5000, 2560]⟩
abbrev S5000x2560 : Shape := ⟨2, ![5000, 2560]⟩
abbrev S5000x32000 : Shape := ⟨2, ![5000, 32000]⟩
abbrev S5000 : Shape := ⟨1, ![5000]⟩
abbrev S1x32000 : Shape := ⟨2, ![1, 32000]⟩

abbrev nBuf : Space → Nat
  | .hbm => 8
  | .vmem => 8
  | .smem => 0
  | _ => 0

abbrev bufTy : (tb : Table) → Fin (tcTables nBuf tb) → BufTy
  | .hbm, ⟨0, _⟩ => ⟨S2x5120x2560, .i8⟩
  | .hbm, ⟨1, _⟩ => ⟨S5120, .f32⟩
  | .hbm, ⟨2, _⟩ => ⟨S32000x2560, .i8⟩
  | .hbm, ⟨3, _⟩ => ⟨S32000, .f32⟩
  | .hbm, ⟨4, _⟩ => ⟨S5000x1x32000, .f32⟩
  | .hbm, ⟨5, _⟩ => ⟨S5000x1, .i32⟩
  | .hbm, ⟨6, _⟩ => ⟨S5000x1, .f32⟩
  | .hbm, ⟨7, _⟩ => ⟨S5000x1, .f32⟩
  | .local _ .vmem, ⟨0, _⟩ => ⟨S2x5120x2560, .i8⟩
  | .local _ .vmem, ⟨1, _⟩ => ⟨S5120, .f32⟩
  | .local _ .vmem, ⟨2, _⟩ => ⟨S32000x2560, .i8⟩
  | .local _ .vmem, ⟨3, _⟩ => ⟨S32000, .f32⟩
  | .local _ .vmem, ⟨4, _⟩ => ⟨S5000x1x32000, .f32⟩
  | .local _ .vmem, ⟨5, _⟩ => ⟨S5000x1, .i32⟩
  | .local _ .vmem, ⟨6, _⟩ => ⟨S5000x1, .f32⟩
  | .local _ .vmem, ⟨7, _⟩ => ⟨S5000x1, .f32⟩
  | _, _ => ⟨S2x5120x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x5120x2560 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5000x1x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5000x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5000x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5000x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Value.Run.lean ====
/-
The run of the reference, read: its one call has one grid point, and every window's block there is its whole
array. So each result array ends as one function of the arguments: `G4` the logits, `G5` the token,
`G6` the margin, `G7` the top.
-/
module

public import proofs.«01_k».proof.Proof.Gen.ReferenceIdeal.Frame
public import Idealize.ShloMosaic.Lib.Pipeline.Value

@[expose] public section

noncomputable section

namespace Cert.Value.Ref

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x5120x2560.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 5120 + 1 * (j 1).val = (j 1).val; omega
  | ⟨2, _⟩ => show win0_0.index t (2 : Fin 3) * 2560 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S5120.Idx) : ((cfg0.win 1).blk t).view.emb j = j := by
  have e0 := idx_zero1 t
  funext a; apply Fin.ext
  match a with
  | ⟨0, _⟩ => show win0_1.index t (0 : Fin 1) * 5120 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S32000x2560.Idx) : ((cfg0.win 2).blk t).view.emb j = j := by
  obtain ⟨e0, e1⟩ := idx_zero2 t
  funext a; apply Fin.ext
  match a with
  | ⟨0, _⟩ => show win0_2.index t (0 : Fin 2) * 32000 + 1 * (j 0).val = (j 0).val; omega
  | ⟨1, _⟩ => show win0_2.index t (1 : Fin 2) * 2560 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S32000.Idx) : ((cfg0.win 3).blk t).view.emb j = j := by
  have e0 := idx_zero3 t
  funext a; apply Fin.ext
  match a with
  | ⟨0, _⟩ => show win0_3.index t (0 : Fin 1) * 32000 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S5000x1x32000.Idx) : ((cfg0.win 4).blk t).view.emb j = j := by
  obtain ⟨e0, e1, e2⟩ := idx_zero4 t
  funext a; apply Fin.ext
  match a with
  | ⟨0, _⟩ => show win0_4.index t (0 : Fin 3) * 5000 + 1 * (j 0).val = (j 0).val; omega
  | ⟨1, _⟩ => show win0_4.index t (1 : Fin 3) * 1 + 1 * (j 1).val = (j 1).val; omega
  | ⟨2, _⟩ => show win0_4.index t (2 : Fin 3) * 32000 + 1 * (j 2).val = (j 2).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S5000x1.Idx) : ((cfg0.win 5).blk t).view.emb j = j := by
  obtain ⟨e0, e1⟩ := idx_zero5 t
  funext a; apply Fin.ext
  match a with
  | ⟨0, _⟩ => show win0_5.index t (0 : Fin 2) * 5000 + 1 * (j 0).val = (j 0).val; omega
  | ⟨1, _⟩ => show win0_5.index t (1 : Fin 2) * 1 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S5000x1.Idx) : ((cfg0.win 6).blk t).view.emb j = j := by
  obtain ⟨e0, e1⟩ := idx_zero6 t
  funext a; apply Fin.ext
  match a with
  | ⟨0, _⟩ => show win0_6.index t (0 : Fin 2) * 5000 + 1 * (j 0).val = (j 0).val; omega
  | ⟨1, _⟩ => show win0_6.index t (1 : Fin 2) * 1 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S5000x1.Idx) : ((cfg0.win 7).blk t).view.emb j = j := by
  obtain ⟨e0, e1⟩ := idx_zero7 t
  funext a; apply Fin.ext
  match a with
  | ⟨0, _⟩ => show win0_7.index t (0 : Fin 2) * 5000 + 1 * (j 0).val = (j 0).val; omega
  | ⟨1, _⟩ => show win0_7.index t (1 : Fin 2) * 1 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S2x5120x2560 .i8) (a1 : Vec F S5120 .f32) (a2 : Vec F S32000x2560 .i8) (a3 : Vec F S32000 .f32) : Vec F S5000x1x32000 .f32 :=
  k0_pay1 (k0_pay7 a0 a1 a2 a3)

/-- The one store through the whole rectangle leaves its payload. -/
theorem out4_eq (a0 : Vec F S2x5120x2560 .i8) (a1 : Vec F S5120 .f32) (a2 : Vec F S32000x2560 .i8) (a3 : Vec F S32000 .f32) : out0_4 (F := F) a0 a1 a2 a3 = G4 a0 a1 a2 a3 := by
  unfold out0_4
  rw [View.canon_unit_zero hz4]

/-- Cutting the point's block out of `X` and reading `X` through the block's view give the same. -/
theorem cut4_eq (t : Fin cfg0.N) (X : Vec F S5000x1x32000 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S5000x1x32000.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S2x5120x2560 .i8) (a1 : Vec F S5120 .f32) (a2 : Vec F S32000x2560 .i8) (a3 : Vec F S32000 .f32) : Vec F S5000x1 .i32 :=
  k0_pay5 (View.ld a0 r0_0) (View.ld a0 r0_1) a2 (View.ld a1 r0_3) a3

/-- A load of the whole of a block reads the block, and the one store through the whole rectangle leaves its payload. -/
theorem out5_eq (a0 : Vec F S2x5120x2560 .i8) (a1 : Vec F S5120 .f32) (a2 : Vec F S32000x2560 .i8) (a3 : Vec F S32000 .f32) : out0_5 (F := F) a0 a1 a2 a3 = G5 a0 a1 a2 a3 := by
  unfold out0_5
  rw [View.canon_unit_zero hz5, View.ld_unit_zero (S := S32000x2560) hz2 _ a2, View.ld_unit_zero (S := S32000) hz3 _ a3]

/-- Cutting the point's block out of `X` and reading `X` through the block's view give the same. -/
theorem cut5_eq (t : Fin cfg0.N) (X : Vec F S5000x1 .i32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S5000x1.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S2x5120x2560 .i8) (a1 : Vec F S5120 .f32) (a2 : Vec F S32000x2560 .i8) (a3 : Vec F S32000 .f32) : Vec F S5000x1 .f32 :=
  k0_pay2 (k0_pay7 a0 a1 a2 a3) (k0_pay8 a0 a1 a2 a3) (k0_pay6 (View.ld a0 r0_0) (View.ld a0 r0_1) a2 (View.ld a1 r0_3) a3)

/-- A load of the whole of a block reads the block, and the one store through the whole rectangle leaves its payload. -/
theorem out6_eq (a0 : Vec F S2x5120x2560 .i8) (a1 : Vec F S5120 .f32) (a2 : Vec F S32000x2560 .i8) (a3 : Vec F S32000 .f32) : out0_6 (F := F) a0 a1 a2 a3 = G6 a0 a1 a2 a3 := by
  unfold out0_6
  rw [View.canon_unit_zero hz6, View.ld_unit_zero (S := S32000x2560) hz2 _ a2, View.ld_unit_zero (S := S32000) hz3 _ a3]

/-- Cutting the point's block out of `X` and reading `X` through the block's view give the same. -/
theorem cut6_eq (t : Fin cfg0.N) (X : Vec F S5000x1 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S5000x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ### Output window 7: the array after the run -/

/-- What the window's array ends holding: `out0_7` applied to the argument arrays in place of the input blocks (a value that the
    frame states apart, `kK_payN a…`, keeps its loads inside its own definition). -/
abbrev G7 (a0 : Vec F S2x5120x2560 .i8) (a1 : Vec F S5120 .f32) (a2 : Vec F S32000x2560 .i8) (a3 : Vec F S32000 .f32) : Vec F S5000x1 .f32 :=
  k0_pay8 a0 a1 a2 a3

/-- The one store through the whole rectangle leaves its payload. -/
theorem out7_eq (a0 : Vec F S2x5120x2560 .i8) (a1 : Vec F S5120 .f32) (a2 : Vec F S32000x2560 .i8) (a3 : Vec F S32000 .f32) : out0_7 (F := F) a0 a1 a2 a3 = G7 a0 a1 a2 a3 := by
  unfold out0_7
  rw [View.canon_unit_zero hz7]

/-- Cutting the point's block out of `X` and reading `X` through the block's view give the same. -/
theorem cut7_eq (t : Fin cfg0.N) (X : Vec F S5000x1 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3)) := by
  show (cfg0.win 7).cut (grid0.coords t) ((dats m 0 c).after 7 t) = _
  rw [after0_7, out7_eq, iblk0_eq, iblk1_eq, iblk2_eq, iblk3_eq]
  exact cut7_eq t _

/-- Every index of the array is in the point's block. -/
theorem covered7 (i : S5000x1.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  ((dats m 0 c).arrAt_eq_of_cover 7 (G7 (V m c main_arg0) (V m c main_arg1) (V m c main_arg2) (V m c main_arg3)) (fun t _ => flushed7_eq m c t) covered7).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      kept_main_arg0 m r h c,
      kept_main_arg1 m r h c,
      kept_main_arg2 m r h c,
      kept_main_arg3 m r h c⟩)
    (run_main m ρ)

end Cert.Value.Ref

end
-- ==== Proof.Kern.Body.lean ====
/-
  The body of the head call, run once per control case at symbolic operands.
-/
module

public import proofs.«01_k».proof.Proof.Gen.Kernel.Launch
public import proofs.«01_k».proof.Proof.Gen.Kernel.Points
public import proofs.«01_k».proof.Proof.Gen.Kernel.Skeleton
public import Idealize.ShloMosaic.Lib.Tactic
public import Idealize.ShloMosaic.Lib.Pipeline.Kit

@[expose] public section

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipelines' staging cells. -/
abbrev UU : Type := UR sig nD τ

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the head body leaves in the buffers it writes at a first column block, with the proof that it runs there: the logits, token, margin and top
    windows, then the four scratch buffers. -/
def runA (c : Dev nD) (i : grid0.Coords) (hc1 :  Scalar.cmpi .ne (Scalar.extui (Scalar.cmpi .eq (BitVec.ofNat 32 (i 1).val) 0#32) : BitVec 32) 0#32 = 1#1) (hc2 : ¬ k0_cond2 i = 1#1)
    (M0 : Memref sig .tc .vmem S2x1024x2560 .i8) (h0 : M0.IsWhole) (M1 : Memref sig .tc .vmem S1024x128 .f32) (h1 : M1.IsWhole)
    (M2 : Memref sig .tc .vmem S512x2560 .i8) (h2 : M2.IsWhole) (M3 : Memref sig .tc .vmem S1x1x512 .f32) (h3 : M3.IsWhole)
    (M4 : Memref sig .tc .vmem S1024x1x512 .f32) (h4 : M4.IsWhole) (M5 : Memref sig .tc .vmem S1024x1 .i32) (h5 : M5.IsWhole)
    (M6 : Memref sig .tc .vmem S1024x1 .f32) (h6 : M6.IsWhole) (M7 : Memref sig .tc .vmem S1024x1 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3)) :
    { W : (Bf (F := F) c M4 × Bf (F := F) c M5 × Bf (F := F) c M6 × Bf (F := F) c M7)
          × (Bf (F := F) c (Memref.whole cc0_scratch0) × Bf (F := F) c (Memref.whole cc0_scratch1)
            × Bf (F := F) c (Memref.whole cc0_scratch2) × Bf (F := F) c (Memref.whole cc0_scratch3)) //
        ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ pt c (Memref.whole cc0_scratch0) g0 ∗ pt c (Memref.whole cc0_scratch1) g1 ∗ pt c (Memref.whole cc0_scratch2) g2
            ∗ pt c (Memref.whole cc0_scratch3) g3
            ∗ (iprop(pt c M0 f0 ∗ pt c M1 f1 ∗ pt c M2 f2 ∗ pt c M3 f3 ∗ pt c M4 W.1.1 ∗ pt c M5 W.1.2.1 ∗ pt c M6 W.1.2.2.1 ∗ pt c M7 W.1.2.2.2
            ∗ pt c (Memref.whole cc0_scratch0) W.2.1 ∗ pt c (Memref.whole cc0_scratch1) W.2.2.1 ∗ pt c (Memref.whole cc0_scratch2) W.2.2.2.1
            ∗ pt c (Memref.whole cc0_scratch3) W.2.2.2.2) -∗ Q ⟨⟩))
          ⊢ wp frame (wpE (defs₀ (F := F)) Variants.none c none) E (cc0_head i M0 h0 M1 h1 M2 h2 M3 h3 M4 h4 M5 h5 M6 h6 M7 h7
              (Memref.whole cc0_scratch0) (Memref.isWhole_whole _) (Memref.whole cc0_scratch1) (Memref.isWhole_whole _)
              (Memref.whole cc0_scratch2) (Memref.isWhole_whole _) (Memref.whole cc0_scratch3) (Memref.isWhole_whole _)) Q } := by
  refine ⟨((?_, ?_, ?_, ?_), (?_, ?_, ?_, ?_)), fun E Q => ?run⟩
  case run =>
    iintro ⟨H0, H1, H2, H3, H4, H5, H6, H7, G0, G1, G2, G3, Hk⟩
    rw [cc0_head_eq_skeleton]
    sl_exec! (disch := first | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3

/-- What the head body leaves in the buffers it writes at a middle column block, with the proof that it runs there: the logits, token, margin and top
    windows, then the four scratch buffers. -/
def runB (c : Dev nD) (i : grid0.Coords) (hc1 : ¬ Scalar.cmpi .ne (Scalar.extui (Scalar.cmpi .eq (BitVec.ofNat 32 (i 1).val) 0#32) : BitVec 32) 0#32 = 1#1) (hc2 : ¬ k0_cond2 i = 1#1)
    (M0 : Memref sig .tc .vmem S2x1024x2560 .i8) (h0 : M0.IsWhole) (M1 : Memref sig .tc .vmem S1024x128 .f32) (h1 : M1.IsWhole)
    (M2 : Memref sig .tc .vmem S512x2560 .i8) (h2 : M2.IsWhole) (M3 : Memref sig .tc .vmem S1x1x512 .f32) (h3 : M3.IsWhole)
    (M4 : Memref sig .tc .vmem S1024x1x512 .f32) (h4 : M4.IsWhole) (M5 : Memref sig .tc .vmem S1024x1 .i32) (h5 : M5.IsWhole)
    (M6 : Memref sig .tc .vmem S1024x1 .f32) (h6 : M6.IsWhole) (M7 : Memref sig .tc .vmem S1024x1 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3)) :
    { W : (Bf (F := F) c M4 × Bf (F := F) c M5 × Bf (F := F) c M6 × Bf (F := F) c M7)
          × (Bf (F := F) c (Memref.whole cc0_scratch0) × Bf (F := F) c (Memref.whole cc0_scratch1)
            × Bf (F := F) c (Memref.whole cc0_scratch2) × Bf (F := F) c (Memref.whole cc0_scratch3)) //
        ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ pt c (Memref.whole cc0_scratch0) g0 ∗ pt c (Memref.whole cc0_scratch1) g1 ∗ pt c (Memref.whole cc0_scratch2) g2
            ∗ pt c (Memref.whole cc0_scratch3) g3
            ∗ (iprop(pt c M0 f0 ∗ pt c M1 f1 ∗ pt c M2 f2 ∗ pt c M3 f3 ∗ pt c M4 W.1.1 ∗ pt c M5 W.1.2.1 ∗ pt c M6 W.1.2.2.1 ∗ pt c M7 W.1.2.2.2
            ∗ pt c (Memref.whole cc0_scratch0) W.2.1 ∗ pt c (Memref.whole cc0_scratch1) W.2.2.1 ∗ pt c (Memref.whole cc0_scratch2) W.2.2.2.1
            ∗ pt c (Memref.whole cc0_scratch3) W.2.2.2.2) -∗ Q ⟨⟩))
          ⊢ wp frame (wpE (defs₀ (F := F)) Variants.none c none) E (cc0_head i M0 h0 M1 h1 M2 h2 M3 h3 M4 h4 M5 h5 M6 h6 M7 h7
              (Memref.whole cc0_scratch0) (Memref.isWhole_whole _) (Memref.whole cc0_scratch1) (Memref.isWhole_whole _)
              (Memref.whole cc0_scratch2) (Memref.isWhole_whole _) (Memref.whole cc0_scratch3) (Memref.isWhole_whole _)) Q } := by
  refine ⟨((?_, ?_, ?_, ?_), (?_, ?_, ?_, ?_)), fun E Q => ?run⟩
  case run =>
    iintro ⟨H0, H1, H2, H3, H4, H5, H6, H7, G0, G1, G2, G3, Hk⟩
    rw [cc0_head_eq_skeleton]
    sl_exec! (disch := first | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3

/-- What the head body leaves in the buffers it writes at the last column block, with the proof that it runs there: the logits, token, margin and top
    windows, then the four scratch buffers. -/
def runC (c : Dev nD) (i : grid0.Coords) (hc1 : ¬ Scalar.cmpi .ne (Scalar.extui (Scalar.cmpi .eq (BitVec.ofNat 32 (i 1).val) 0#32) : BitVec 32) 0#32 = 1#1) (hc2 :  k0_cond2 i = 1#1)
    (M0 : Memref sig .tc .vmem S2x1024x2560 .i8) (h0 : M0.IsWhole) (M1 : Memref sig .tc .vmem S1024x128 .f32) (h1 : M1.IsWhole)
    (M2 : Memref sig .tc .vmem S512x2560 .i8) (h2 : M2.IsWhole) (M3 : Memref sig .tc .vmem S1x1x512 .f32) (h3 : M3.IsWhole)
    (M4 : Memref sig .tc .vmem S1024x1x512 .f32) (h4 : M4.IsWhole) (M5 : Memref sig .tc .vmem S1024x1 .i32) (h5 : M5.IsWhole)
    (M6 : Memref sig .tc .vmem S1024x1 .f32) (h6 : M6.IsWhole) (M7 : Memref sig .tc .vmem S1024x1 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3)) :
    { W : (Bf (F := F) c M4 × Bf (F := F) c M5 × Bf (F := F) c M6 × Bf (F := F) c M7)
          × (Bf (F := F) c (Memref.whole cc0_scratch0) × Bf (F := F) c (Memref.whole cc0_scratch1)
            × Bf (F := F) c (Memref.whole cc0_scratch2) × Bf (F := F) c (Memref.whole cc0_scratch3)) //
        ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ pt c (Memref.whole cc0_scratch0) g0 ∗ pt c (Memref.whole cc0_scratch1) g1 ∗ pt c (Memref.whole cc0_scratch2) g2
            ∗ pt c (Memref.whole cc0_scratch3) g3
            ∗ (iprop(pt c M0 f0 ∗ pt c M1 f1 ∗ pt c M2 f2 ∗ pt c M3 f3 ∗ pt c M4 W.1.1 ∗ pt c M5 W.1.2.1 ∗ pt c M6 W.1.2.2.1 ∗ pt c M7 W.1.2.2.2
            ∗ pt c (Memref.whole cc0_scratch0) W.2.1 ∗ pt c (Memref.whole cc0_scratch1) W.2.2.1 ∗ pt c (Memref.whole cc0_scratch2) W.2.2.2.1
            ∗ pt c (Memref.whole cc0_scratch3) W.2.2.2.2) -∗ Q ⟨⟩))
          ⊢ wp frame (wpE (defs₀ (F := F)) Variants.none c none) E (cc0_head i M0 h0 M1 h1 M2 h2 M3 h3 M4 h4 M5 h5 M6 h6 M7 h7
              (Memref.whole cc0_scratch0) (Memref.isWhole_whole _) (Memref.whole cc0_scratch1) (Memref.isWhole_whole _)
              (Memref.whole cc0_scratch2) (Memref.isWhole_whole _) (Memref.whole cc0_scratch3) (Memref.isWhole_whole _)) Q } := by
  refine ⟨((?_, ?_, ?_, ?_), (?_, ?_, ?_, ?_)), fun E Q => ?run⟩
  case run =>
    iintro ⟨H0, H1, H2, H3, H4, H5, H6, H7, G0, G1, G2, G3, Hk⟩
    rw [cc0_head_eq_skeleton]
    sl_exec! (disch := first | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3

end Cert.Kernel.Body

end
-- ==== Proof.Kern.Region.lean ====
/-
  The head region: its proof data over a relation naming what the body may leave in the windows and an invariant of the
  scratch buffers between the grid points, and its body obligation.
-/
module

public import proofs.«01_k».proof.Proof.Kern.Body
public import Idealize.ShloMosaic.Lib.Pipeline.Frame
public import proofs.«01_k».proof.Proof.Gen.Kernel.Points
public import proofs.«01_k».proof.Proof.Gen.Kernel.Skeleton
public import Idealize.ShloMosaic.Lib.Tactic
public import Idealize.ShloMosaic.Lib.Pipeline.Kit

@[expose] public section

set_option maxRecDepth 16384
set_option Elab.async false

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

/-- A whole staging buffer owned at a reading is the buffer owned at the contents that read so. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  iintro ⟨%f, %hf, H⟩
  have hf := h.eq_unread hf
  subst hf
  rw [h.set_eq_univ]
  iexact H

/-- A whole buffer owned at contents `f` is owned at what `f` reads as. -/
theorem owns_of_pt (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns
  rw [h.set_eq_univ]
  iintro H
  iexists f
  isplitr; · ipureintro; rfl
  iexact H

/-- The same at the contents that read `X`. -/
theorem owns_of_pt_unread (c : Dev nD) {sp : Space} {S : Shape} {e : EltTy} (M : Memref sig .tc sp S e) (h : M.IsWhole) (X : S.Idx → Elt F e) :
    (pt c M (h.unread X) : sProp 𝕄) ⊢ owns (c : Thread nD τ) M fullShare X := by
  have H := owns_of_pt c M h (h.unread X)
  rwa [h.read_unread] at H

/-- What is held at `x`, known to satisfy `φ`, is held at something satisfying `φ`. -/
theorem give_pure {α : Type} {φ : α → Prop} (P : α → sProp 𝕄) {x : α} (h : φ x) : P x ⊢ iprop(∃ X, ⌜φ X⌝ ∗ P X) := by
  iintro H
  iexists x
  isplitr; · ipureintro; exact h
  iexact H

/-- The contents of the four scratch buffers. -/
abbrev Scr (c : Dev nD) : Type := Bf (F := F) c (Memref.whole cc0_scratch0) × Bf (F := F) c (Memref.whole cc0_scratch1) × Bf (F := F) c (Memref.whole cc0_scratch2) × Bf (F := F) c (Memref.whole cc0_scratch3)

/-- The scratch buffers held at contents `g`. -/
def scr (c : Dev nD) (g : Scr (F := F) c) : sProp 𝕄 :=
  iprop(pt c (Memref.whole cc0_scratch0) g.1 ∗ pt c (Memref.whole cc0_scratch1) g.2.1 ∗ pt c (Memref.whole cc0_scratch2) g.2.2.1 ∗ pt c (Memref.whole cc0_scratch3) g.2.2.2)

/-- What the body does not touch: the core's generator register, at some state. -/
def others (c : Dev nD) : sProp 𝕄 := iprop(∃ r, prngReg c r)

/-- The proof data of the head region entered at contents `V`: what the body may leave is the relation `R`; between points
    the scratch buffers satisfy `Inv`. -/
def rdat (V : (b : Ref sig .tc) → (c : Dev nD) → Buf (Elt F) ((c : Thread nD τ).loc b))
    (R : (w : Fin cfg0.W) → Fin cfg0.N → (Y X : (cfg0.win w).block.Idx → Elt F (cfg0.win w).elt) → Prop)
    (c : Dev nD) (Inv : Fin (cfg0.N + 1) → Scr (F := F) c → Prop) :
    RDat τ (Elt F) Unit ℕ UU ℕ cfg0 c where
  A w := V (Pipeline.arrRef spec0 w) c
  after := R
  Φ t := iprop(others c ∗ ∃ g, ⌜Inv t g⌝ ∗ scr c g)
  q _ := fullShare
  owed _ := 0

/-- The buffers the region does not stage give its first invariant, -/
theorem phi_in (c : Dev nD) (Inv : Fin (cfg0.N + 1) → Scr (F := F) c → Prop) (h : ∀ g, Inv 0 g) :
    (Pipeline.ΦA spec0 c : sProp 𝕄)
      ⊢ iprop(others c ∗ ∃ g, ⌜Inv 0 g⌝ ∗ scr c g) := by
  unfold Pipeline.ΦA
  rw [scopedRest0_eq]
  unfold others scr
  iintro ⟨⟨⟨%g0, G0⟩, ⟨%g1, G1⟩, ⟨%g2, G2⟩, ⟨%g3, G3⟩⟩, Ho⟩
  isplitl [Ho]; · iexact Ho
  iexists (g0, g1, g2, g3)
  isplitr; · ipureintro; exact h _
  isplitl [G0]; · iexact G0
  isplitl [G1]; · iexact G1
  isplitl [G2]; · iexact G2
  iexact G3

/-- and its last invariant gives them back. -/
theorem phi_out (c : Dev nD) (Inv : Fin (cfg0.N + 1) → Scr (F := F) c → Prop) (t : Fin (cfg0.N + 1)) :
    iprop(others c ∗ ∃ g, ⌜Inv t g⌝ ∗ scr c g)
      ⊢ (Pipeline.ΦA spec0 c : sProp 𝕄) := by
  unfold Pipeline.ΦA
  rw [scopedRest0_eq]
  unfold others scr
  iintro ⟨Ho, %g, -, G0, G1, G2, G3⟩
  isplitl [G0 G1 G2 G3]
  · isplitl [G0]; · iexists _; iexact G0
    isplitl [G1]; · iexists _; iexact G1
    isplitl [G2]; · iexists _; iexact G2
    iexists _; iexact G3
  iexact Ho

section

variable (c : Dev nD) (t : Fin cfg0.N) (Y : (w : Fin cfg0.W) → (cfg0.win w).block.Idx → Elt F (cfg0.win w).elt) (g : Scr (F := F) c)

/-- The head body's run at a first column block, from staging buffers that read `Y` and scratch contents `g`. -/
abbrev atA (hc1 : Scalar.cmpi .ne (Scalar.extui (Scalar.cmpi .eq (BitVec.ofNat 32 ((grid0.coords t) 1).val) 0#32) : BitVec 32) 0#32 = 1#1) (hc2 : ¬ k0_cond2 (grid0.coords t) = 1#1) :=
  runA (F := F) c (grid0.coords t) hc1 hc2 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) ((hstage0_4 ((cfg0.slots t 4).cast nbuf0_4)).unread (Y 4)) ((hstage0_5 ((cfg0.slots t 5).cast nbuf0_5)).unread (Y 5)) ((hstage0_6 ((cfg0.slots t 6).cast nbuf0_6)).unread (Y 6)) ((hstage0_7 ((cfg0.slots t 7).cast nbuf0_7)).unread (Y 7)) g.1 g.2.1 g.2.2.1 g.2.2.2

/-- The head body's run at a middle column block, from staging buffers that read `Y` and scratch contents `g`. -/
abbrev atB (hc1 : ¬ Scalar.cmpi .ne (Scalar.extui (Scalar.cmpi .eq (BitVec.ofNat 32 ((grid0.coords t) 1).val) 0#32) : BitVec 32) 0#32 = 1#1) (hc2 : ¬ k0_cond2 (grid0.coords t) = 1#1) :=
  runB (F := F) c (grid0.coords t) hc1 hc2 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) ((hstage0_4 ((cfg0.slots t 4).cast nbuf0_4)).unread (Y 4)) ((hstage0_5 ((cfg0.slots t 5).cast nbuf0_5)).unread (Y 5)) ((hstage0_6 ((cfg0.slots t 6).cast nbuf0_6)).unread (Y 6)) ((hstage0_7 ((cfg0.slots t 7).cast nbuf0_7)).unread (Y 7)) g.1 g.2.1 g.2.2.1 g.2.2.2

/-- The head body's run at a last column block, from staging buffers that read `Y` and scratch contents `g`. -/
abbrev atC (hc1 : ¬ Scalar.cmpi .ne (Scalar.extui (Scalar.cmpi .eq (BitVec.ofNat 32 ((grid0.coords t) 1).val) 0#32) : BitVec 32) 0#32 = 1#1) (hc2 : k0_cond2 (grid0.coords t) = 1#1) :=
  runC (F := F) c (grid0.coords t) hc1 hc2 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) ((hstage0_4 ((cfg0.slots t 4).cast nbuf0_4)).unread (Y 4)) ((hstage0_5 ((cfg0.slots t 5).cast nbuf0_5)).unread (Y 5)) ((hstage0_6 ((cfg0.slots t 6).cast nbuf0_6)).unread (Y 6)) ((hstage0_7 ((cfg0.slots t 7).cast nbuf0_7)).unread (Y 7)) g.1 g.2.1 g.2.2.1 g.2.2.2

/-- What the body writes at point `t`: the four output windows' buffers, then the scratch. -/
abbrev Out : Type := (Bf (F := F) c (st0_4 t) × Bf (F := F) c (st0_5 t) × Bf (F := F) c (st0_6 t) × Bf (F := F) c (st0_7 t)) × Scr (F := F) c

variable {t} in
/-- What a run leaves in each staging buffer, as read through the window. -/
noncomputable def left (W : Out (F := F) c t) : (w : Fin cfg0.W) → (cfg0.win w).block.Idx → Elt F (cfg0.win w).elt
  | ⟨0, _⟩ => Y 0
  | ⟨1, _⟩ => Y 1
  | ⟨2, _⟩ => Y 2
  | ⟨3, _⟩ => Y 3
  | ⟨4, _⟩ => (st0_4 t).view.read (Elt F) W.1.1
  | ⟨5, _⟩ => (st0_5 t).view.read (Elt F) W.1.2.1
  | ⟨6, _⟩ => (st0_6 t).view.read (Elt F) W.1.2.2.1
  | ⟨7, _⟩ => (st0_7 t).view.read (Elt F) W.1.2.2.2

/-- A run over the buffers' contents is a run over the staging buffers as the region hands them. -/
theorem body_wp (W : Out (F := F) c t) (E : Set ℕ) (Q : PUnit → sProp 𝕄)
    (hW : iprop(pt c (st0_0 t) ((hstage0_0 ((cfg0.slots t 0).cast nbuf0_0)).unread (Y 0)) ∗ pt c (st0_1 t) ((hstage0_1 ((cfg0.slots t 1).cast nbuf0_1)).unread (Y 1)) ∗ pt c (st0_2 t) ((hstage0_2 ((cfg0.slots t 2).cast nbuf0_2)).unread (Y 2)) ∗ pt c (st0_3 t) ((hstage0_3 ((cfg0.slots t 3).cast nbuf0_3)).unread (Y 3)) ∗ pt c (st0_4 t) ((hstage0_4 ((cfg0.slots t 4).cast nbuf0_4)).unread (Y 4)) ∗ pt c (st0_5 t) ((hstage0_5 ((cfg0.slots t 5).cast nbuf0_5)).unread (Y 5)) ∗ pt c (st0_6 t) ((hstage0_6 ((cfg0.slots t 6).cast nbuf0_6)).unread (Y 6)) ∗ pt c (st0_7 t) ((hstage0_7 ((cfg0.slots t 7).cast nbuf0_7)).unread (Y 7))
          ∗ pt c (Memref.whole cc0_scratch0) g.1 ∗ pt c (Memref.whole cc0_scratch1) g.2.1 ∗ pt c (Memref.whole cc0_scratch2) g.2.2.1 ∗ pt c (Memref.whole cc0_scratch3) g.2.2.2
          ∗ (iprop(pt c (st0_0 t) ((hstage0_0 ((cfg0.slots t 0).cast nbuf0_0)).unread (Y 0)) ∗ pt c (st0_1 t) ((hstage0_1 ((cfg0.slots t 1).cast nbuf0_1)).unread (Y 1)) ∗ pt c (st0_2 t) ((hstage0_2 ((cfg0.slots t 2).cast nbuf0_2)).unread (Y 2)) ∗ pt c (st0_3 t) ((hstage0_3 ((cfg0.slots t 3).cast nbuf0_3)).unread (Y 3)) ∗ pt c (st0_4 t) W.1.1 ∗ pt c (st0_5 t) W.1.2.1 ∗ pt c (st0_6 t) W.1.2.2.1 ∗ pt c (st0_7 t) W.1.2.2.2
            ∗ pt c (Memref.whole cc0_scratch0) W.2.1 ∗ pt c (Memref.whole cc0_scratch1) W.2.2.1 ∗ pt c (Memref.whole cc0_scratch2) W.2.2.2.1 ∗ pt c (Memref.whole cc0_scratch3) W.2.2.2.2) -∗ Q ⟨⟩))
        ⊢ wp frame (wpE (defs₀ (F := F)) Variants.none c none) E (bodyAt0 t) Q) :
    iprop((bigSep Finset.univ fun w => owns (c : Thread nD τ) ((cfg0.win w).stage (cfg0.slots t w)) fullShare (Y w)) ∗ scr c g
        ∗ (iprop((bigSep Finset.univ fun w => owns (c : Thread nD τ) ((cfg0.win w).stage (cfg0.slots t w)) fullShare (left c Y W w)) ∗ scr c W.2) -∗ Q ⟨⟩))
      ⊢ wp frame (wpE (defs₀ (F := F)) Variants.none c none) E (bodyAt0 t) Q := by
  rw [bigSep_W0, bigSep_W0]
  unfold scr
  iintro ⟨⟨H0, H1, H2, H3, H4, H5, H6, H7⟩, ⟨G0, G1, G2, G3⟩, Hk⟩
  ihave H0 := (pt_of_owns c (st0_0 t) (hstage0_0 ((cfg0.slots t 0).cast nbuf0_0)) (Y 0)) $$ H0
  ihave H1 := (pt_of_owns c (st0_1 t) (hstage0_1 ((cfg0.slots t 1).cast nbuf0_1)) (Y 1)) $$ H1
  ihave H2 := (pt_of_owns c (st0_2 t) (hstage0_2 ((cfg0.slots t 2).cast nbuf0_2)) (Y 2)) $$ H2
  ihave H3 := (pt_of_owns c (st0_3 t) (hstage0_3 ((cfg0.slots t 3).cast nbuf0_3)) (Y 3)) $$ H3
  ihave H4 := (pt_of_owns c (st0_4 t) (hstage0_4 ((cfg0.slots t 4).cast nbuf0_4)) (Y 4)) $$ H4
  ihave H5 := (pt_of_owns c (st0_5 t) (hstage0_5 ((cfg0.slots t 5).cast nbuf0_5)) (Y 5)) $$ H5
  ihave H6 := (pt_of_owns c (st0_6 t) (hstage0_6 ((cfg0.slots t 6).cast nbuf0_6)) (Y 6)) $$ H6
  ihave H7 := (pt_of_owns c (st0_7 t) (hstage0_7 ((cfg0.slots t 7).cast nbuf0_7)) (Y 7)) $$ H7
  iapply hW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  isplitl [G3]; · iexact G3
  iintro ⟨H0, H1, H2, H3, H4, H5, H6, H7, G0, G1, G2, G3⟩
  ihave H0 := (owns_of_pt_unread c (st0_0 t) (hstage0_0 ((cfg0.slots t 0).cast nbuf0_0)) (Y 0)) $$ H0
  ihave H1 := (owns_of_pt_unread c (st0_1 t) (hstage0_1 ((cfg0.slots t 1).cast nbuf0_1)) (Y 1)) $$ H1
  ihave H2 := (owns_of_pt_unread c (st0_2 t) (hstage0_2 ((cfg0.slots t 2).cast nbuf0_2)) (Y 2)) $$ H2
  ihave H3 := (owns_of_pt_unread c (st0_3 t) (hstage0_3 ((cfg0.slots t 3).cast nbuf0_3)) (Y 3)) $$ H3
  ihave H4 := (owns_of_pt c (st0_4 t) (hstage0_4 ((cfg0.slots t 4).cast nbuf0_4)) _) $$ H4
  ihave H5 := (owns_of_pt c (st0_5 t) (hstage0_5 ((cfg0.slots t 5).cast nbuf0_5)) _) $$ H5
  ihave H6 := (owns_of_pt c (st0_6 t) (hstage0_6 ((cfg0.slots t 6).cast nbuf0_6)) _) $$ H6
  ihave H7 := (owns_of_pt c (st0_7 t) (hstage0_7 ((cfg0.slots t 7).cast nbuf0_7)) _) $$ H7
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [G0]; · iexact G0
  isplitl [G1]; · iexact G1
  isplitl [G2]; · iexact G2
  iexact G3

end

/-- The two control words of the head body are not both set: the column block is not both the first and the last. -/
theorem not_first_last (i : grid0.Coords) (h1 : Scalar.cmpi .ne (Scalar.extui (Scalar.cmpi .eq (BitVec.ofNat 32 (i 1).val) 0#32) : BitVec 32) 0#32 = 1#1)
    (h2 : k0_cond2 i = 1#1) : False := by
  have hv : (i 1).val < 63 := (i 1).isLt
  unfold k0_cond2 at h2
  dsimp only at h2
  generalize (i 1).val = v at hv h1 h2
  revert v
  decide +kernel

/-- What a run must leave: every window in the relation, and the scratch in the next invariant. -/
def Ok (R : (w : Fin cfg0.W) → Fin cfg0.N → (Y X : (cfg0.win w).block.Idx → Elt F (cfg0.win w).elt) → Prop)
    (c : Dev nD) (Inv : Fin (cfg0.N + 1) → Scr (F := F) c → Prop) (t : Fin cfg0.N)
    (Y : (w : Fin cfg0.W) → (cfg0.win w).block.Idx → Elt F (cfg0.win w).elt) (W : Out (F := F) c t) : Prop :=
  (∀ w, R w t (Y w) (left c Y W w)) ∧ Inv t.succ W.2

/-- The obligation at a point where the run leaves `W`. -/
theorem obligation_of_run (V : (b : Ref sig .tc) → (c : Dev nD) → Buf (Elt F) ((c : Thread nD τ).loc b))
    (R : (w : Fin cfg0.W) → Fin cfg0.N → (Y X : (cfg0.win w).block.Idx → Elt F (cfg0.win w).elt) → Prop)
    (c : Dev nD) (Inv : Fin (cfg0.N + 1) → Scr (F := F) c → Prop) (t : Fin cfg0.N)
    (Y : (w : Fin cfg0.W) → (cfg0.win w).block.Idx → Elt F (cfg0.win w).elt) (g : Scr (F := F) c) (W : Out (F := F) c t)
    (hW : ∀ Q : PUnit → sProp 𝕄, iprop((bigSep Finset.univ fun w => owns (c : Thread nD τ) ((cfg0.win w).stage (cfg0.slots t w)) fullShare (Y w)) ∗ scr c g
        ∗ (iprop((bigSep Finset.univ fun w => owns (c : Thread nD τ) ((cfg0.win w).stage (cfg0.slots t w)) fullShare (left c Y W w)) ∗ scr c W.2) -∗ Q ⟨⟩))
      ⊢ wp frame (wpE (defs₀ (F := F)) Variants.none c none) Set.univ (bodyAt0 t) Q)
    (hok : Ok R c Inv t Y W) :
    iprop(others c ∗ scr c g ∗ (rdat V R c Inv).owesAt () t.castSucc ∗ (bigSep Finset.univ fun w => owns (c : Thread nD τ) ((cfg0.win w).stage (cfg0.slots t w)) fullShare (Y w)))
      ⊢ wp frame (wpE (defs₀ (F := F)) Variants.none c none) Set.univ (bodyAt0 t) (fun _ =>
        iprop((rdat V R c Inv).Φ t.succ ∗ (rdat V R c Inv).owesAt () t.succ
          ∗ bigSep Finset.univ fun w => iprop(∃ X, ⌜(rdat V R c Inv).after w t (Y w) X⌝
          ∗ owns (c : Thread nD τ) ((cfg0.win w).stage (cfg0.slots t w)) fullShare X))) := by
  rw [show (rdat V R c Inv).owesAt () t.succ = (rdat V R c Inv).owesAt () t.castSucc from rfl,
    show (rdat V R c Inv).Φ t.succ = iprop(others c ∗ ∃ g, ⌜Inv t.succ g⌝ ∗ scr c g) from rfl]
  iintro ⟨Ho, Hg, Howes, H⟩
  iapply (hW _)
  isplitl [H]; · iexact H
  isplitl [Hg]; · iexact Hg
  iintro ⟨H, Hg⟩
  isplitl [Ho Hg]
  · isplitl [Ho]; · iexact Ho
    iexists W.2
    isplitr; · ipureintro; exact hok.2
    iexact Hg
  isplitl [Howes]; · iexact Howes
  have hpost : iprop((bigSep Finset.univ fun w => owns (c : Thread nD τ) ((cfg0.win w).stage (cfg0.slots t w)) fullShare (left c Y W w)))
      ⊢ (iprop(bigSep Finset.univ fun w => iprop(∃ X, ⌜(rdat V R c Inv).after w t (Y w) X⌝
          ∗ owns (c : Thread nD τ) ((cfg0.win w).stage (cfg0.slots t w)) fullShare X)) : sProp 𝕄) :=
    bigSep_mono fun w _ => give_pure (fun X => owns (c : Thread nD τ) ((cfg0.win w).stage (cfg0.slots t w)) fullShare X) (hok.1 w)
  iapply hpost
  iexact H

/-- The body obligation, given that each kind of column block leaves what the relation and the invariant ask. -/
theorem body_obligation (V : (b : Ref sig .tc) → (c : Dev nD) → Buf (Elt F) ((c : Thread nD τ).loc b))
    (R : (w : Fin cfg0.W) → Fin cfg0.N → (Y X : (cfg0.win w).block.Idx → Elt F (cfg0.win w).elt) → Prop)
    (c : Dev nD) (Inv : Fin (cfg0.N + 1) → Scr (F := F) c → Prop)
    (hA : ∀ t Y g, (∀ w, (rdat V R c Inv).Finds w t (Y w)) → Inv t.castSucc g → ∀ hc1 hc2, Ok R c Inv t Y (atA c t Y g hc1 hc2).1)
    (hB : ∀ t Y g, (∀ w, (rdat V R c Inv).Finds w t (Y w)) → Inv t.castSucc g → ∀ hc1 hc2, Ok R c Inv t Y (atB c t Y g hc1 hc2).1)
    (hC : ∀ t Y g, (∀ w, (rdat V R c Inv).Finds w t (Y w)) → Inv t.castSucc g → ∀ hc1 hc2, Ok R c Inv t Y (atC c t Y g hc1 hc2).1)
    : (rdat V R c Inv).BodyObligation (defs₀ (F := F)) Variants.none () Set.univ := fun t Y hY => by
  rw [show (rdat V R c Inv).Φ t.castSucc = iprop(others c ∗ ∃ g, ⌜Inv t.castSucc g⌝ ∗ scr c g) from rfl]
  iintro ⟨⟨Ho, %g, %hg, Hg⟩, Howes, H⟩
  by_cases hc1 : Scalar.cmpi .ne (Scalar.extui (Scalar.cmpi .eq (BitVec.ofNat 32 ((grid0.coords t) 1).val) 0#32) : BitVec 32) 0#32 = 1#1
  · by_cases hc2 : k0_cond2 (grid0.coords t) = 1#1
    · exact (not_first_last _ hc1 hc2).elim
    · have hb := obligation_of_run V R c Inv t Y g _ (fun Q => body_wp c t Y g _ Set.univ Q ((atA c t Y g hc1 hc2).2 Set.univ Q)) (hA t Y g hY hg hc1 hc2)
      iapply hb
      isplitl [Ho]; · iexact Ho
      isplitl [Hg]; · iexact Hg
      isplitl [Howes]; · iexact Howes
      iexact H
  · by_cases hc2 : k0_cond2 (grid0.coords t) = 1#1
    · have hb := obligation_of_run V R c Inv t Y g _ (fun Q => body_wp c t Y g _ Set.univ Q ((atC c t Y g hc1 hc2).2 Set.univ Q)) (hC t Y g hY hg hc1 hc2)
      iapply hb
      isplitl [Ho]; · iexact Ho
      isplitl [Hg]; · iexact Hg
      isplitl [Howes]; · iexact Howes
      iexact H
    · have hb := obligation_of_run V R c Inv t Y g _ (fun Q => body_wp c t Y g _ Set.univ Q ((atB c t Y g hc1 hc2).2 Set.univ Q)) (hB t Y g hY hg hc1 hc2)
      iapply hb
      isplitl [Ho]; · iexact Ho
      isplitl [Hg]; · iexact Hg
      isplitl [Howes]; · iexact Howes
      iexact H

end Cert.Kernel.Body

end
-- ==== Proof.Kern.Run.lean ====
/-
  The run of the program over the relation naming what the body may leave in the windows, and the frame from it.
-/
module

public import proofs.«01_k».proof.Proof.Kern.Region
public import proofs.«01_k».proof.Proof.Gen.Kernel.Frame

@[expose] public section

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

/-- The proof data of the program's one region, entered at what the host operations before it leave. -/
abbrev datOf (m : (ℓ : Loc nD τ sig) → Buf (Elt F) ℓ)
    (R : (c : Dev nD) → (w : Fin cfg0.W) → Fin cfg0.N → (Y X : (cfg0.win w).block.Idx → Elt F (cfg0.win w).elt) → Prop)
    (Inv : (c : Dev nD) → Fin (cfg0.N + 1) → Scr (F := F) c → Prop) (c : Dev nD) :=
  rdat (fun b c => Gen.V m c b) (R c) c (Inv c)

/-- The program runs, and ends with every array at something the relation allows, every other buffer as the region
    found it, and every semaphore at zero. -/
theorem run_program (m : (ℓ : Loc nD τ sig) → Buf (Elt F) ℓ) (ρ : Dev nD → PrngReg)
    (R : (c : Dev nD) → (w : Fin cfg0.W) → Fin cfg0.N → (Y X : (cfg0.win w).block.Idx → Elt F (cfg0.win w).elt) → Prop)
    (Inv : (c : Dev nD) → Fin (cfg0.N + 1) → Scr (F := F) c → Prop)
    (hstart : ∀ c g, Inv c 0 g)
    (hbody : ∀ c, (datOf m R Inv c).BodyObligation (defs₀ (F := F)) Variants.none () Set.univ) :
    θ_run defs (onTc (τ := τ) (main (F := F))) (s₀ m ρ) (fun r =>
      RDat.FramePost cfg0 (datOf m R Inv) (Gen.V m) r ∧ r.2.sem = fun _ => 0) :=
  RDat.θ_run_frame_track cfgs 0 launch0 (defs₀ (F := F)) Variants.none (datOf m R Inv) m ρ main hbody
    (fun c w => by fin_cases w <;> rfl) (fun c t => rfl) (Gen.V m) (hmain m Variants.none) (fun c w => rfl)
    (fun c => phi_in c (Inv c) (hstart c)) (fun c => phi_out c (Inv c) _)
    _ (fun r h => h)

/-- What a run says of the arguments: they are as launched. -/
theorem args_of_post (m : (ℓ : Loc nD τ sig) → Buf (Elt F) ℓ)
    (R : (c : Dev nD) → (w : Fin cfg0.W) → Fin cfg0.N → (Y X : (cfg0.win w).block.Idx → Elt F (cfg0.win w).elt) → Prop)
    (Inv : (c : Dev nD) → Fin (cfg0.N + 1) → Scr (F := F) c → Prop) (r : PUnit × MemSt nD τ sig (Elt F))
    (h : RDat.FramePost cfg0 (datOf m R Inv) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c)⟩

/-- THE FRAME: the program runs, every semaphore ends at zero and no argument changes. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_of_post m _ _ r h.1 c, h.2⟩)
    (run_program m ρ (fun _ _ _ _ _ => True) (fun _ _ _ => True) (fun _ _ => trivial)
      (fun c => body_obligation _ _ c _ (fun _ _ _ _ _ _ _ => ⟨fun _ => trivial, trivial⟩)
        (fun _ _ _ _ _ _ _ => ⟨fun _ => trivial, trivial⟩) (fun _ _ _ _ _ _ _ => ⟨fun _ => trivial, trivial⟩)))

end Cert.Kernel.Body

end
-- ==== Proof.Ideal.Body.lean ====
/-
  The body of the head call, run once per control case at symbolic operands.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.Pipeline.Kit

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipelines' staging cells. -/
abbrev UU : Type := UR sig nD τ

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the head body leaves in the buffers it writes at a first column block, with the proof that it runs there: the logits, token, margin and top
    windows, then the four scratch buffers. -/
def runA (c : Dev nD) (i : grid0.Coords) (hc1 :  Scalar.cmpi .ne (Scalar.extui (Scalar.cmpi .eq (BitVec.ofNat 32 (i 1).val) 0#32) : BitVec 32) 0#32 = 1#1) (hc2 : ¬ k0_cond2 i = 1#1)
    (M0 : Memref sig .tc .vmem S2x1024x2560 .i8) (h0 : M0.IsWhole) (M1 : Memref sig .tc .vmem S1024x128 .f32) (h1 : M1.IsWhole)
    (M2 : Memref sig .tc .vmem S512x2560 .i8) (h2 : M2.IsWhole) (M3 : Memref sig .tc .vmem S1x1x512 .f32) (h3 : M3.IsWhole)
    (M4 : Memref sig .tc .vmem S1024x1x512 .f32) (h4 : M4.IsWhole) (M5 : Memref sig .tc .vmem S1024x1 .i32) (h5 : M5.IsWhole)
    (M6 : Memref sig .tc .vmem S1024x1 .f32) (h6 : M6.IsWhole) (M7 : Memref sig .tc .vmem S1024x1 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3)) :
    { W : (Bf (F := F) c M4 × Bf (F := F) c M5 × Bf (F := F) c M6 × Bf (F := F) c M7)
          × (Bf (F := F) c (Memref.whole cc0_scratch0) × Bf (F := F) c (Memref.whole cc0_scratch1)
            × Bf (F := F) c (Memref.whole cc0_scratch2) × Bf (F := F) c (Memref.whole cc0_scratch3)) //
        ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ pt c (Memref.whole cc0_scratch0) g0 ∗ pt c (Memref.whole cc0_scratch1) g1 ∗ pt c (Memref.whole cc0_scratch2) g2
            ∗ pt c (Memref.whole cc0_scratch3) g3
            ∗ (iprop(pt c M0 f0 ∗ pt c M1 f1 ∗ pt c M2 f2 ∗ pt c M3 f3 ∗ pt c M4 W.1.1 ∗ pt c M5 W.1.2.1 ∗ pt c M6 W.1.2.2.1 ∗ pt c M7 W.1.2.2.2
            ∗ pt c (Memref.whole cc0_scratch0) W.2.1 ∗ pt c (Memref.whole cc0_scratch1) W.2.2.1 ∗ pt c (Memref.whole cc0_scratch2) W.2.2.2.1
            ∗ pt c (Memref.whole cc0_scratch3) W.2.2.2.2) -∗ Q ⟨⟩))
          ⊢ wp frame (wpE (defs₀ (F := F)) Variants.none c none) E (cc0_head i M0 h0 M1 h1 M2 h2 M3 h3 M4 h4 M5 h5 M6 h6 M7 h7
              (Memref.whole cc0_scratch0) (Memref.isWhole_whole _) (Memref.whole cc0_scratch1) (Memref.isWhole_whole _)
              (Memref.whole cc0_scratch2) (Memref.isWhole_whole _) (Memref.whole cc0_scratch3) (Memref.isWhole_whole _)) Q } := by
  refine ⟨((?_, ?_, ?_, ?_), (?_, ?_, ?_, ?_)), fun E Q => ?run⟩
  case run =>
    iintro ⟨H0, H1, H2, H3, H4, H5, H6, H7, G0, G1, G2, G3, Hk⟩
    rw [cc0_head_eq_skeleton]
    sl_exec! (disch := first | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3

/-- What the head body leaves in the buffers it writes at a middle column block, with the proof that it runs there: the logits, token, margin and top
    windows, then the four scratch buffers. -/
def runB (c : Dev nD) (i : grid0.Coords) (hc1 : ¬ Scalar.cmpi .ne (Scalar.extui (Scalar.cmpi .eq (BitVec.ofNat 32 (i 1).val) 0#32) : BitVec 32) 0#32 = 1#1) (hc2 : ¬ k0_cond2 i = 1#1)
    (M0 : Memref sig .tc .vmem S2x1024x2560 .i8) (h0 : M0.IsWhole) (M1 : Memref sig .tc .vmem S1024x128 .f32) (h1 : M1.IsWhole)
    (M2 : Memref sig .tc .vmem S512x2560 .i8) (h2 : M2.IsWhole) (M3 : Memref sig .tc .vmem S1x1x512 .f32) (h3 : M3.IsWhole)
    (M4 : Memref sig .tc .vmem S1024x1x512 .f32) (h4 : M4.IsWhole) (M5 : Memref sig .tc .vmem S1024x1 .i32) (h5 : M5.IsWhole)
    (M6 : Memref sig .tc .vmem S1024x1 .f32) (h6 : M6.IsWhole) (M7 : Memref sig .tc .vmem S1024x1 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3)) :
    { W : (Bf (F := F) c M4 × Bf (F := F) c M5 × Bf (F := F) c M6 × Bf (F := F) c M7)
          × (Bf (F := F) c (Memref.whole cc0_scratch0) × Bf (F := F) c (Memref.whole cc0_scratch1)
            × Bf (F := F) c (Memref.whole cc0_scratch2) × Bf (F := F) c (Memref.whole cc0_scratch3)) //
        ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ pt c (Memref.whole cc0_scratch0) g0 ∗ pt c (Memref.whole cc0_scratch1) g1 ∗ pt c (Memref.whole cc0_scratch2) g2
            ∗ pt c (Memref.whole cc0_scratch3) g3
            ∗ (iprop(pt c M0 f0 ∗ pt c M1 f1 ∗ pt c M2 f2 ∗ pt c M3 f3 ∗ pt c M4 W.1.1 ∗ pt c M5 W.1.2.1 ∗ pt c M6 W.1.2.2.1 ∗ pt c M7 W.1.2.2.2
            ∗ pt c (Memref.whole cc0_scratch0) W.2.1 ∗ pt c (Memref.whole cc0_scratch1) W.2.2.1 ∗ pt c (Memref.whole cc0_scratch2) W.2.2.2.1
            ∗ pt c (Memref.whole cc0_scratch3) W.2.2.2.2) -∗ Q ⟨⟩))
          ⊢ wp frame (wpE (defs₀ (F := F)) Variants.none c none) E (cc0_head i M0 h0 M1 h1 M2 h2 M3 h3 M4 h4 M5 h5 M6 h6 M7 h7
              (Memref.whole cc0_scratch0) (Memref.isWhole_whole _) (Memref.whole cc0_scratch1) (Memref.isWhole_whole _)
              (Memref.whole cc0_scratch2) (Memref.isWhole_whole _) (Memref.whole cc0_scratch3) (Memref.isWhole_whole _)) Q } := by
  refine ⟨((?_, ?_, ?_, ?_), (?_, ?_, ?_, ?_)), fun E Q => ?run⟩
  case run =>
    iintro ⟨H0, H1, H2, H3, H4, H5, H6, H7, G0, G1, G2, G3, Hk⟩
    rw [cc0_head_eq_skeleton]
    sl_exec! (disch := first | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3

/-- What the head body leaves in the buffers it writes at the last column block, with the proof that it runs there: the logits, token, margin and top
    windows, then the four scratch buffers. -/
def runC (c : Dev nD) (i : grid0.Coords) (hc1 : ¬ Scalar.cmpi .ne (Scalar.extui (Scalar.cmpi .eq (BitVec.ofNat 32 (i 1).val) 0#32) : BitVec 32) 0#32 = 1#1) (hc2 :  k0_cond2 i = 1#1)
    (M0 : Memref sig .tc .vmem S2x1024x2560 .i8) (h0 : M0.IsWhole) (M1 : Memref sig .tc .vmem S1024x128 .f32) (h1 : M1.IsWhole)
    (M2 : Memref sig .tc .vmem S512x2560 .i8) (h2 : M2.IsWhole) (M3 : Memref sig .tc .vmem S1x1x512 .f32) (h3 : M3.IsWhole)
    (M4 : Memref sig .tc .vmem S1024x1x512 .f32) (h4 : M4.IsWhole) (M5 : Memref sig .tc .vmem S1024x1 .i32) (h5 : M5.IsWhole)
    (M6 : Memref sig .tc .vmem S1024x1 .f32) (h6 : M6.IsWhole) (M7 : Memref sig .tc .vmem S1024x1 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (g0 : Bf (F := F) c (Memref.whole cc0_scratch0)) (g1 : Bf (F := F) c (Memref.whole cc0_scratch1))
    (g2 : Bf (F := F) c (Memref.whole cc0_scratch2)) (g3 : Bf (F := F) c (Memref.whole cc0_scratch3)) :
    { W : (Bf (F := F) c M4 × Bf (F := F) c M5 × Bf (F := F) c M6 × Bf (F := F) c M7)
          × (Bf (F := F) c (Memref.whole cc0_scratch0) × Bf (F := F) c (Memref.whole cc0_scratch1)
            × Bf (F := F) c (Memref.whole cc0_scratch2) × Bf (F := F) c (Memref.whole cc0_scratch3)) //
        ∀ (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ pt c (Memref.whole cc0_scratch0) g0 ∗ pt c (Memref.whole cc0_scratch1) g1 ∗ pt c (Memref.whole cc0_scratch2) g2
            ∗ pt c (Memref.whole cc0_scratch3) g3
            ∗ (iprop(pt c M0 f0 ∗ pt c M1 f1 ∗ pt c M2 f2 ∗ pt c M3 f3 ∗ pt c M4 W.1.1 ∗ pt c M5 W.1.2.1 ∗ pt c M6 W.1.2.2.1 ∗ pt c M7 W.1.2.2.2
            ∗ pt c (Memref.whole cc0_scratch0) W.2.1 ∗ pt c (Memref.whole cc0_scratch1) W.2.2.1 ∗ pt c (Memref.whole cc0_scratch2) W.2.2.2.1
            ∗ pt c (Memref.whole cc0_scratch3) W.2.2.2.2) -∗ Q ⟨⟩))
          ⊢ wp frame (wpE (defs₀ (F := F)) Variants.none c none) E (cc0_head i M0 h0 M1 h1 M2 h2 M3 h3 M4 h4 M5 h5 M6 h6 M7 h7
              (Memref.whole cc0_scratch0) (Memref.isWhole_whole _) (Memref.whole cc0_scratch1) (Memref.isWhole_whole _)
              (Memref.whole cc0_scratch2) (Memref.isWhole_whole _) (Memref.whole cc0_scratch3) (Memref.isWhole_whole _)) Q } := by
  refine ⟨((?_, ?_, ?_, ?_), (?_, ?_, ?_, ?_)), fun E Q => ?run⟩
  case run =>
    iintro ⟨H0, H1, H2, H3, H4, H5, H6, H7, G0, G1, G2, G3, Hk⟩
    rw [cc0_head_eq_skeleton]
    sl_exec! (disch := first | sl_exact hc1 | sl_exact hc2)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3

end Cert.KernelIdeal.Body

end
-- ==== Proof.Ideal.Region.lean ====
/-
  The head region: its proof data over a relation naming what the body may leave in the windows and an invariant of the
  scratch buffers between the grid points, and its body obligation.
-/
module

public import proofs.«01_k».proof.Proof.Ideal.Body
public import Idealize.ShloMosaic.Lib.Pipeline.Frame
public import proofs.«01_k».proof.Proof.Gen.KernelIdeal.Points
public import proofs.«01_k».proof.Proof.Gen.KernelIdeal.Skeleton
public import Idealize.ShloMosaic.Lib.Tactic
public import Idealize.ShloMosaic.Lib.Pipeline.Kit

@[expose] public section

set_option maxRecDepth 16384
set_option Elab.async false

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

/-- A whole staging buffer owned at a reading is the buffer owned at the contents that read so. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  iintro ⟨%f, %hf, H⟩
  have hf := h.eq_unread hf
  subst hf
  rw [h.set_eq_univ]
  iexact H

/-- A whole buffer owned at contents `f` is owned at what `f` reads as. -/
theorem owns_of_pt (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns
  rw [h.set_eq_univ]
  iintro H
  iexists f
  isplitr; · ipureintro; rfl
  iexact H

/-- The same at the contents that read `X`. -/
theorem owns_of_pt_unread (c : Dev nD) {sp : Space} {S : Shape} {e : EltTy} (M : Memref sig .tc sp S e) (h : M.IsWhole) (X : S.Idx → Elt F e) :
    (pt c M (h.unread X) : sProp 𝕄) ⊢ owns (c : Thread nD τ) M fullShare X := by
  have H := owns_of_pt c M h (h.unread X)
  rwa [h.read_unread] at H

/-- What is held at `x`, known to satisfy `φ`, is held at something satisfying `φ`. -/
theorem give_pure {α : Type} {φ : α → Prop} (P : α → sProp 𝕄) {x : α} (h : φ x) : P x ⊢ iprop(∃ X, ⌜φ X⌝ ∗ P X) := by
  iintro H
  iexists x
  isplitr; · ipureintro; exact h
  iexact H

/-- The contents of the four scratch buffers. -/
abbrev Scr (c : Dev nD) : Type := Bf (F := F) c (Memref.whole cc0_scratch0) × Bf (F := F) c (Memref.whole cc0_scratch1) × Bf (F := F) c (Memref.whole cc0_scratch2) × Bf (F := F) c (Memref.whole cc0_scratch3)

/-- The scratch buffers held at contents `g`. -/
def scr (c : Dev nD) (g : Scr (F := F) c) : sProp 𝕄 :=
  iprop(pt c (Memref.whole cc0_scratch0) g.1 ∗ pt c (Memref.whole cc0_scratch1) g.2.1 ∗ pt c (Memref.whole cc0_scratch2) g.2.2.1 ∗ pt c (Memref.whole cc0_scratch3) g.2.2.2)

/-- What the body does not touch: the core's generator register, at some state. -/
def others (c : Dev nD) : sProp 𝕄 := iprop(∃ r, prngReg c r)

/-- The proof data of the head region entered at contents `V`: what the body may leave is the relation `R`; between points
    the scratch buffers satisfy `Inv`. -/
def rdat (V : (b : Ref sig .tc) → (c : Dev nD) → Buf (Elt F) ((c : Thread nD τ).loc b))
    (R : (w : Fin cfg0.W) → Fin cfg0.N → (Y X : (cfg0.win w).block.Idx → Elt F (cfg0.win w).elt) → Prop)
    (c : Dev nD) (Inv : Fin (cfg0.N + 1) → Scr (F := F) c → Prop) :
    RDat τ (Elt F) Unit ℕ UU ℕ cfg0 c where
  A w := V (Pipeline.arrRef spec0 w) c
  after := R
  Φ t := iprop(others c ∗ ∃ g, ⌜Inv t g⌝ ∗ scr c g)
  q _ := fullShare
  owed _ := 0

/-- The buffers the region does not stage give its first invariant, -/
theorem phi_in (c : Dev nD) (Inv : Fin (cfg0.N + 1) → Scr (F := F) c → Prop) (h : ∀ g, Inv 0 g) :
    (Pipeline.ΦA spec0 c : sProp 𝕄)
      ⊢ iprop(others c ∗ ∃ g, ⌜Inv 0 g⌝ ∗ scr c g) := by
  unfold Pipeline.ΦA
  rw [scopedRest0_eq]
  unfold others scr
  iintro ⟨⟨⟨%g0, G0⟩, ⟨%g1, G1⟩, ⟨%g2, G2⟩, ⟨%g3, G3⟩⟩, Ho⟩
  isplitl [Ho]; · iexact Ho
  iexists (g0, g1, g2, g3)
  isplitr; · ipureintro; exact h _
  isplitl [G0]; · iexact G0
  isplitl [G1]; · iexact G1
  isplitl [G2]; · iexact G2
  iexact G3

/-- and its last invariant gives them back. -/
theorem phi_out (c : Dev nD) (Inv : Fin (cfg0.N + 1) → Scr (F := F) c → Prop) (t : Fin (cfg0.N + 1)) :
    iprop(others c ∗ ∃ g, ⌜Inv t g⌝ ∗ scr c g)
      ⊢ (Pipeline.ΦA spec0 c : sProp 𝕄) := by
  unfold Pipeline.ΦA
  rw [scopedRest0_eq]
  unfold others scr
  iintro ⟨Ho, %g, -, G0, G1, G2, G3⟩
  isplitl [G0 G1 G2 G3]
  · isplitl [G0]; · iexists _; iexact G0
    isplitl [G1]; · iexists _; iexact G1
    isplitl [G2]; · iexists _; iexact G2
    iexists _; iexact G3
  iexact Ho

section

variable (c : Dev nD) (t : Fin cfg0.N) (Y : (w : Fin cfg0.W) → (cfg0.win w).block.Idx → Elt F (cfg0.win w).elt) (g : Scr (F := F) c)

/-- The head body's run at a first column block, from staging buffers that read `Y` and scratch contents `g`. -/
abbrev atA (hc1 : Scalar.cmpi .ne (Scalar.extui (Scalar.cmpi .eq (BitVec.ofNat 32 ((grid0.coords t) 1).val) 0#32) : BitVec 32) 0#32 = 1#1) (hc2 : ¬ k0_cond2 (grid0.coords t) = 1#1) :=
  runA (F := F) c (grid0.coords t) hc1 hc2 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) ((hstage0_4 ((cfg0.slots t 4).cast nbuf0_4)).unread (Y 4)) ((hstage0_5 ((cfg0.slots t 5).cast nbuf0_5)).unread (Y 5)) ((hstage0_6 ((cfg0.slots t 6).cast nbuf0_6)).unread (Y 6)) ((hstage0_7 ((cfg0.slots t 7).cast nbuf0_7)).unread (Y 7)) g.1 g.2.1 g.2.2.1 g.2.2.2

/-- The head body's run at a middle column block, from staging buffers that read `Y` and scratch contents `g`. -/
abbrev atB (hc1 : ¬ Scalar.cmpi .ne (Scalar.extui (Scalar.cmpi .eq (BitVec.ofNat 32 ((grid0.coords t) 1).val) 0#32) : BitVec 32) 0#32 = 1#1) (hc2 : ¬ k0_cond2 (grid0.coords t) = 1#1) :=
  runB (F := F) c (grid0.coords t) hc1 hc2 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) ((hstage0_4 ((cfg0.slots t 4).cast nbuf0_4)).unread (Y 4)) ((hstage0_5 ((cfg0.slots t 5).cast nbuf0_5)).unread (Y 5)) ((hstage0_6 ((cfg0.slots t 6).cast nbuf0_6)).unread (Y 6)) ((hstage0_7 ((cfg0.slots t 7).cast nbuf0_7)).unread (Y 7)) g.1 g.2.1 g.2.2.1 g.2.2.2

/-- The head body's run at a last column block, from staging buffers that read `Y` and scratch contents `g`. -/
abbrev atC (hc1 : ¬ Scalar.cmpi .ne (Scalar.extui (Scalar.cmpi .eq (BitVec.ofNat 32 ((grid0.coords t) 1).val) 0#32) : BitVec 32) 0#32 = 1#1) (hc2 : k0_cond2 (grid0.coords t) = 1#1) :=
  runC (F := F) c (grid0.coords t) hc1 hc2 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) ((hstage0_4 ((cfg0.slots t 4).cast nbuf0_4)).unread (Y 4)) ((hstage0_5 ((cfg0.slots t 5).cast nbuf0_5)).unread (Y 5)) ((hstage0_6 ((cfg0.slots t 6).cast nbuf0_6)).unread (Y 6)) ((hstage0_7 ((cfg0.slots t 7).cast nbuf0_7)).unread (Y 7)) g.1 g.2.1 g.2.2.1 g.2.2.2

/-- What the body writes at point `t`: the four output windows' buffers, then the scratch. -/
abbrev Out : Type := (Bf (F := F) c (st0_4 t) × Bf (F := F) c (st0_5 t) × Bf (F := F) c (st0_6 t) × Bf (F := F) c (st0_7 t)) × Scr (F := F) c

variable {t} in
/-- What a run leaves in each staging buffer, as read through the window. -/
noncomputable def left (W : Out (F := F) c t) : (w : Fin cfg0.W) → (cfg0.win w).block.Idx → Elt F (cfg0.win w).elt
  | ⟨0, _⟩ => Y 0
  | ⟨1, _⟩ => Y 1
  | ⟨2, _⟩ => Y 2
  | ⟨3, _⟩ => Y 3
  | ⟨4, _⟩ => (st0_4 t).view.read (Elt F) W.1.1
  | ⟨5, _⟩ => (st0_5 t).view.read (Elt F) W.1.2.1
  | ⟨6, _⟩ => (st0_6 t).view.read (Elt F) W.1.2.2.1
  | ⟨7, _⟩ => (st0_7 t).view.read (Elt F) W.1.2.2.2

/-- A run over the buffers' contents is a run over the staging buffers as the region hands them. -/
theorem body_wp (W : Out (F := F) c t) (E : Set ℕ) (Q : PUnit → sProp 𝕄)
    (hW : iprop(pt c (st0_0 t) ((hstage0_0 ((cfg0.slots t 0).cast nbuf0_0)).unread (Y 0)) ∗ pt c (st0_1 t) ((hstage0_1 ((cfg0.slots t 1).cast nbuf0_1)).unread (Y 1)) ∗ pt c (st0_2 t) ((hstage0_2 ((cfg0.slots t 2).cast nbuf0_2)).unread (Y 2)) ∗ pt c (st0_3 t) ((hstage0_3 ((cfg0.slots t 3).cast nbuf0_3)).unread (Y 3)) ∗ pt c (st0_4 t) ((hstage0_4 ((cfg0.slots t 4).cast nbuf0_4)).unread (Y 4)) ∗ pt c (st0_5 t) ((hstage0_5 ((cfg0.slots t 5).cast nbuf0_5)).unread (Y 5)) ∗ pt c (st0_6 t) ((hstage0_6 ((cfg0.slots t 6).cast nbuf0_6)).unread (Y 6)) ∗ pt c (st0_7 t) ((hstage0_7 ((cfg0.slots t 7).cast nbuf0_7)).unread (Y 7))
          ∗ pt c (Memref.whole cc0_scratch0) g.1 ∗ pt c (Memref.whole cc0_scratch1) g.2.1 ∗ pt c (Memref.whole cc0_scratch2) g.2.2.1 ∗ pt c (Memref.whole cc0_scratch3) g.2.2.2
          ∗ (iprop(pt c (st0_0 t) ((hstage0_0 ((cfg0.slots t 0).cast nbuf0_0)).unread (Y 0)) ∗ pt c (st0_1 t) ((hstage0_1 ((cfg0.slots t 1).cast nbuf0_1)).unread (Y 1)) ∗ pt c (st0_2 t) ((hstage0_2 ((cfg0.slots t 2).cast nbuf0_2)).unread (Y 2)) ∗ pt c (st0_3 t) ((hstage0_3 ((cfg0.slots t 3).cast nbuf0_3)).unread (Y 3)) ∗ pt c (st0_4 t) W.1.1 ∗ pt c (st0_5 t) W.1.2.1 ∗ pt c (st0_6 t) W.1.2.2.1 ∗ pt c (st0_7 t) W.1.2.2.2
            ∗ pt c (Memref.whole cc0_scratch0) W.2.1 ∗ pt c (Memref.whole cc0_scratch1) W.2.2.1 ∗ pt c (Memref.whole cc0_scratch2) W.2.2.2.1 ∗ pt c (Memref.whole cc0_scratch3) W.2.2.2.2) -∗ Q ⟨⟩))
        ⊢ wp frame (wpE (defs₀ (F := F)) Variants.none c none) E (bodyAt0 t) Q) :
    iprop((bigSep Finset.univ fun w => owns (c : Thread nD τ) ((cfg0.win w).stage (cfg0.slots t w)) fullShare (Y w)) ∗ scr c g
        ∗ (iprop((bigSep Finset.univ fun w => owns (c : Thread nD τ) ((cfg0.win w).stage (cfg0.slots t w)) fullShare (left c Y W w)) ∗ scr c W.2) -∗ Q ⟨⟩))
      ⊢ wp frame (wpE (defs₀ (F := F)) Variants.none c none) E (bodyAt0 t) Q := by
  rw [bigSep_W0, bigSep_W0]
  unfold scr
  iintro ⟨⟨H0, H1, H2, H3, H4, H5, H6, H7⟩, ⟨G0, G1, G2, G3⟩, Hk⟩
  ihave H0 := (pt_of_owns c (st0_0 t) (hstage0_0 ((cfg0.slots t 0).cast nbuf0_0)) (Y 0)) $$ H0
  ihave H1 := (pt_of_owns c (st0_1 t) (hstage0_1 ((cfg0.slots t 1).cast nbuf0_1)) (Y 1)) $$ H1
  ihave H2 := (pt_of_owns c (st0_2 t) (hstage0_2 ((cfg0.slots t 2).cast nbuf0_2)) (Y 2)) $$ H2
  ihave H3 := (pt_of_owns c (st0_3 t) (hstage0_3 ((cfg0.slots t 3).cast nbuf0_3)) (Y 3)) $$ H3
  ihave H4 := (pt_of_owns c (st0_4 t) (hstage0_4 ((cfg0.slots t 4).cast nbuf0_4)) (Y 4)) $$ H4
  ihave H5 := (pt_of_owns c (st0_5 t) (hstage0_5 ((cfg0.slots t 5).cast nbuf0_5)) (Y 5)) $$ H5
  ihave H6 := (pt_of_owns c (st0_6 t) (hstage0_6 ((cfg0.slots t 6).cast nbuf0_6)) (Y 6)) $$ H6
  ihave H7 := (pt_of_owns c (st0_7 t) (hstage0_7 ((cfg0.slots t 7).cast nbuf0_7)) (Y 7)) $$ H7
  iapply hW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G0]; · iexact G0
  isplitl [G1]; · iexact G1
  isplitl [G2]; · iexact G2
  isplitl [G3]; · iexact G3
  iintro ⟨H0, H1, H2, H3, H4, H5, H6, H7, G0, G1, G2, G3⟩
  ihave H0 := (owns_of_pt_unread c (st0_0 t) (hstage0_0 ((cfg0.slots t 0).cast nbuf0_0)) (Y 0)) $$ H0
  ihave H1 := (owns_of_pt_unread c (st0_1 t) (hstage0_1 ((cfg0.slots t 1).cast nbuf0_1)) (Y 1)) $$ H1
  ihave H2 := (owns_of_pt_unread c (st0_2 t) (hstage0_2 ((cfg0.slots t 2).cast nbuf0_2)) (Y 2)) $$ H2
  ihave H3 := (owns_of_pt_unread c (st0_3 t) (hstage0_3 ((cfg0.slots t 3).cast nbuf0_3)) (Y 3)) $$ H3
  ihave H4 := (owns_of_pt c (st0_4 t) (hstage0_4 ((cfg0.slots t 4).cast nbuf0_4)) _) $$ H4
  ihave H5 := (owns_of_pt c (st0_5 t) (hstage0_5 ((cfg0.slots t 5).cast nbuf0_5)) _) $$ H5
  ihave H6 := (owns_of_pt c (st0_6 t) (hstage0_6 ((cfg0.slots t 6).cast nbuf0_6)) _) $$ H6
  ihave H7 := (owns_of_pt c (st0_7 t) (hstage0_7 ((cfg0.slots t 7).cast nbuf0_7)) _) $$ H7
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [G0]; · iexact G0
  isplitl [G1]; · iexact G1
  isplitl [G2]; · iexact G2
  iexact G3

end

/-- The two control words of the head body are not both set: the column block is not both the first and the last. -/
theorem not_first_last (i : grid0.Coords) (h1 : Scalar.cmpi .ne (Scalar.extui (Scalar.cmpi .eq (BitVec.ofNat 32 (i 1).val) 0#32) : BitVec 32) 0#32 = 1#1)
    (h2 : k0_cond2 i = 1#1) : False := by
  have hv : (i 1).val < 63 := (i 1).isLt
  unfold k0_cond2 at h2
  dsimp only at h2
  generalize (i 1).val = v at hv h1 h2
  revert v
  decide +kernel

/-- What a run must leave: every window in the relation, and the scratch in the next invariant. -/
def Ok (R : (w : Fin cfg0.W) → Fin cfg0.N → (Y X : (cfg0.win w).block.Idx → Elt F (cfg0.win w).elt) → Prop)
    (c : Dev nD) (Inv : Fin (cfg0.N + 1) → Scr (F := F) c → Prop) (t : Fin cfg0.N)
    (Y : (w : Fin cfg0.W) → (cfg0.win w).block.Idx → Elt F (cfg0.win w).elt) (W : Out (F := F) c t) : Prop :=
  (∀ w, R w t (Y w) (left c Y W w)) ∧ Inv t.succ W.2

/-- The obligation at a point where the run leaves `W`. -/
theorem obligation_of_run (V : (b : Ref sig .tc) → (c : Dev nD) → Buf (Elt F) ((c : Thread nD τ).loc b))
    (R : (w : Fin cfg0.W) → Fin cfg0.N → (Y X : (cfg0.win w).block.Idx → Elt F (cfg0.win w).elt) → Prop)
    (c : Dev nD) (Inv : Fin (cfg0.N + 1) → Scr (F := F) c → Prop) (t : Fin cfg0.N)
    (Y : (w : Fin cfg0.W) → (cfg0.win w).block.Idx → Elt F (cfg0.win w).elt) (g : Scr (F := F) c) (W : Out (F := F) c t)
    (hW : ∀ Q : PUnit → sProp 𝕄, iprop((bigSep Finset.univ fun w => owns (c : Thread nD τ) ((cfg0.win w).stage (cfg0.slots t w)) fullShare (Y w)) ∗ scr c g
        ∗ (iprop((bigSep Finset.univ fun w => owns (c : Thread nD τ) ((cfg0.win w).stage (cfg0.slots t w)) fullShare (left c Y W w)) ∗ scr c W.2) -∗ Q ⟨⟩))
      ⊢ wp frame (wpE (defs₀ (F := F)) Variants.none c none) Set.univ (bodyAt0 t) Q)
    (hok : Ok R c Inv t Y W) :
    iprop(others c ∗ scr c g ∗ (rdat V R c Inv).owesAt () t.castSucc ∗ (bigSep Finset.univ fun w => owns (c : Thread nD τ) ((cfg0.win w).stage (cfg0.slots t w)) fullShare (Y w)))
      ⊢ wp frame (wpE (defs₀ (F := F)) Variants.none c none) Set.univ (bodyAt0 t) (fun _ =>
        iprop((rdat V R c Inv).Φ t.succ ∗ (rdat V R c Inv).owesAt () t.succ
          ∗ bigSep Finset.univ fun w => iprop(∃ X, ⌜(rdat V R c Inv).after w t (Y w) X⌝
          ∗ owns (c : Thread nD τ) ((cfg0.win w).stage (cfg0.slots t w)) fullShare X))) := by
  rw [show (rdat V R c Inv).owesAt () t.succ = (rdat V R c Inv).owesAt () t.castSucc from rfl,
    show (rdat V R c Inv).Φ t.succ = iprop(others c ∗ ∃ g, ⌜Inv t.succ g⌝ ∗ scr c g) from rfl]
  iintro ⟨Ho, Hg, Howes, H⟩
  iapply (hW _)
  isplitl [H]; · iexact H
  isplitl [Hg]; · iexact Hg
  iintro ⟨H, Hg⟩
  isplitl [Ho Hg]
  · isplitl [Ho]; · iexact Ho
    iexists W.2
    isplitr; · ipureintro; exact hok.2
    iexact Hg
  isplitl [Howes]; · iexact Howes
  have hpost : iprop((bigSep Finset.univ fun w => owns (c : Thread nD τ) ((cfg0.win w).stage (cfg0.slots t w)) fullShare (left c Y W w)))
      ⊢ (iprop(bigSep Finset.univ fun w => iprop(∃ X, ⌜(rdat V R c Inv).after w t (Y w) X⌝
          ∗ owns (c : Thread nD τ) ((cfg0.win w).stage (cfg0.slots t w)) fullShare X)) : sProp 𝕄) :=
    bigSep_mono fun w _ => give_pure (fun X => owns (c : Thread nD τ) ((cfg0.win w).stage (cfg0.slots t w)) fullShare X) (hok.1 w)
  iapply hpost
  iexact H

/-- The body obligation, given that each kind of column block leaves what the relation and the invariant ask. -/
theorem body_obligation (V : (b : Ref sig .tc) → (c : Dev nD) → Buf (Elt F) ((c : Thread nD τ).loc b))
    (R : (w : Fin cfg0.W) → Fin cfg0.N → (Y X : (cfg0.win w).block.Idx → Elt F (cfg0.win w).elt) → Prop)
    (c : Dev nD) (Inv : Fin (cfg0.N + 1) → Scr (F := F) c → Prop)
    (hA : ∀ t Y g, (∀ w, (rdat V R c Inv).Finds w t (Y w)) → Inv t.castSucc g → ∀ hc1 hc2, Ok R c Inv t Y (atA c t Y g hc1 hc2).1)
    (hB : ∀ t Y g, (∀ w, (rdat V R c Inv).Finds w t (Y w)) → Inv t.castSucc g → ∀ hc1 hc2, Ok R c Inv t Y (atB c t Y g hc1 hc2).1)
    (hC : ∀ t Y g, (∀ w, (rdat V R c Inv).Finds w t (Y w)) → Inv t.castSucc g → ∀ hc1 hc2, Ok R c Inv t Y (atC c t Y g hc1 hc2).1)
    : (rdat V R c Inv).BodyObligation (defs₀ (F := F)) Variants.none () Set.univ := fun t Y hY => by
  rw [show (rdat V R c Inv).Φ t.castSucc = iprop(others c ∗ ∃ g, ⌜Inv t.castSucc g⌝ ∗ scr c g) from rfl]
  iintro ⟨⟨Ho, %g, %hg, Hg⟩, Howes, H⟩
  by_cases hc1 : Scalar.cmpi .ne (Scalar.extui (Scalar.cmpi .eq (BitVec.ofNat 32 ((grid0.coords t) 1).val) 0#32) : BitVec 32) 0#32 = 1#1
  · by_cases hc2 : k0_cond2 (grid0.coords t) = 1#1
    · exact (not_first_last _ hc1 hc2).elim
    · have hb := obligation_of_run V R c Inv t Y g _ (fun Q => body_wp c t Y g _ Set.univ Q ((atA c t Y g hc1 hc2).2 Set.univ Q)) (hA t Y g hY hg hc1 hc2)
      iapply hb
      isplitl [Ho]; · iexact Ho
      isplitl [Hg]; · iexact Hg
      isplitl [Howes]; · iexact Howes
      iexact H
  · by_cases hc2 : k0_cond2 (grid0.coords t) = 1#1
    · have hb := obligation_of_run V R c Inv t Y g _ (fun Q => body_wp c t Y g _ Set.univ Q ((atC c t Y g hc1 hc2).2 Set.univ Q)) (hC t Y g hY hg hc1 hc2)
      iapply hb
      isplitl [Ho]; · iexact Ho
      isplitl [Hg]; · iexact Hg
      isplitl [Howes]; · iexact Howes
      iexact H
    · have hb := obligation_of_run V R c Inv t Y g _ (fun Q => body_wp c t Y g _ Set.univ Q ((atB c t Y g hc1 hc2).2 Set.univ Q)) (hB t Y g hY hg hc1 hc2)
      iapply hb
      isplitl [Ho]; · iexact Ho
      isplitl [Hg]; · iexact Hg
      isplitl [Howes]; · iexact Howes
      iexact H

end Cert.KernelIdeal.Body

end
-- ==== Proof.Ideal.Run.lean ====
/-
  The run of the program over the relation naming what the body may leave in the windows, and the frame from it.
-/
module

public import proofs.«01_k».proof.Proof.Ideal.Region
public import proofs.«01_k».proof.Proof.Gen.KernelIdeal.Frame

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

/-- The proof data of the program's one region, entered at what the host operations before it leave. -/
abbrev datOf (m : (ℓ : Loc nD τ sig) → Buf (Elt F) ℓ)
    (R : (c : Dev nD) → (w : Fin cfg0.W) → Fin cfg0.N → (Y X : (cfg0.win w).block.Idx → Elt F (cfg0.win w).elt) → Prop)
    (Inv : (c : Dev nD) → Fin (cfg0.N + 1) → Scr (F := F) c → Prop) (c : Dev nD) :=
  rdat (fun b c => Gen.V m c b) (R c) c (Inv c)

/-- The program runs, and ends with every array at something the relation allows, every other buffer as the region
    found it, and every semaphore at zero. -/
theorem run_program (m : (ℓ : Loc nD τ sig) → Buf (Elt F) ℓ) (ρ : Dev nD → PrngReg)
    (R : (c : Dev nD) → (w : Fin cfg0.W) → Fin cfg0.N → (Y X : (cfg0.win w).block.Idx → Elt F (cfg0.win w).elt) → Prop)
    (Inv : (c : Dev nD) → Fin (cfg0.N + 1) → Scr (F := F) c → Prop)
    (hstart : ∀ c g, Inv c 0 g)
    (hbody : ∀ c, (datOf m R Inv c).BodyObligation (defs₀ (F := F)) Variants.none () Set.univ) :
    θ_run defs (onTc (τ := τ) (main (F := F))) (s₀ m ρ) (fun r =>
      RDat.FramePost cfg0 (datOf m R Inv) (Gen.V m) r ∧ r.2.sem = fun _ => 0) :=
  RDat.θ_run_frame_track cfgs 0 launch0 (defs₀ (F := F)) Variants.none (datOf m R Inv) m ρ main hbody
    (fun c w => by fin_cases w <;> rfl) (fun c t => rfl) (Gen.V m) (hmain m Variants.none) (fun c w => rfl)
    (fun c => phi_in c (Inv c) (hstart c)) (fun c => phi_out c (Inv c) _)
    _ (fun r h => h)

/-- What a run says of the arguments: they are as launched. -/
theorem args_of_post (m : (ℓ : Loc nD τ sig) → Buf (Elt F) ℓ)
    (R : (c : Dev nD) → (w : Fin cfg0.W) → Fin cfg0.N → (Y X : (cfg0.win w).block.Idx → Elt F (cfg0.win w).elt) → Prop)
    (Inv : (c : Dev nD) → Fin (cfg0.N + 1) → Scr (F := F) c → Prop) (r : PUnit × MemSt nD τ sig (Elt F))
    (h : RDat.FramePost cfg0 (datOf m R Inv) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c)⟩

/-- THE FRAME: the program runs, every semaphore ends at zero and no argument changes. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_of_post m _ _ r h.1 c, h.2⟩)
    (run_program m ρ (fun _ _ _ _ _ => True) (fun _ _ _ => True) (fun _ _ => trivial)
      (fun c => body_obligation _ _ c _ (fun _ _ _ _ _ _ _ => ⟨fun _ => trivial, trivial⟩)
        (fun _ _ _ _ _ _ _ => ⟨fun _ => trivial, trivial⟩) (fun _ _ _ _ _ _ _ => ⟨fun _ => trivial, trivial⟩)))

end Cert.KernelIdeal.Body

end
-- ==== Proof.Value.Real.lean ====
/-
  The numbers the head call works with, as reals: a signed code, the two
  nibbles of a packed weight byte, and what the layout operations and a
  matrix product of finite entries read at an index.
-/
module

public import proofs.«01_k».proof.Proof.Gen.KernelIdeal.Skeleton
public import Idealize.ShloMosaic.Lib.MatmulPlain
public import Idealize.ShloMosaic.Lib.Pipeline.Value
public import Idealize.ShloMosaic.Lib.Pointwise.Index

@[expose] public section

noncomputable section

namespace Cert.Value

open Idealize.ShloMosaic

/-- A signed code as a real number. -/
def code (b : BitVec 8) : ℝ := (b.toInt : ℝ)

/-- The low nibble of a packed byte, less its zero point 8. -/
def lo (b : BitVec 8) : ℝ := ((b &&& 15#8).toNat : ℝ) - 8

/-- The high nibble of a packed byte, less its zero point 8. -/
def hi (b : BitVec 8) : ℝ := ((b >>> 4).toNat : ℝ) - 8

/-- The zero point in bfloat16 is the number 8. -/
theorem eight_bf16 : Ideal.ofBits .bf16 0x4100#16 = ((8 : ℝ) : EReal) := by
  simp [Ideal.ofBits, Ideal.ieee, -EReal.coe_mul]
  norm_num

/-- The high nibble as the call gets it: widened, shifted, narrowed. -/
theorem hi_bits : ∀ b : BitVec 8, ((b.setWidth 32).sshiftRight 4).setWidth 8 = b >>> 4 := by
  decide +kernel

/-- Dropping a leading unit axis. -/
theorem cast_drop {α : Type} {M N : ℕ} (v : (⟨3, ![1, M, N]⟩ : Shape).Idx → α)
    (h : (⟨3, ![1, M, N]⟩ : Shape).ShapeCasts ⟨2, ![M, N]⟩) (p : Fin M) (k : Fin N) :
    shapeCast ⟨2, ![M, N]⟩ v h (ix2 p k) = v (ix3 0 p k) := by
  refine shapeCast_apply v h _ _ ?_
  rw [Shape.rowMajor_val_two, Shape.rowMajor_val_three]
  show (0 * M + p.val) * N + k.val = p.val * N + k.val
  rw [Nat.zero_mul, Nat.zero_add]

/-- Adding a leading unit axis. -/
theorem cast_add {α : Type} {M N : ℕ} (v : (⟨2, ![M, N]⟩ : Shape).Idx → α)
    (h : (⟨2, ![M, N]⟩ : Shape).ShapeCasts ⟨3, ![1, M, N]⟩) (p : Fin M) (k : Fin N) :
    shapeCast ⟨3, ![1, M, N]⟩ v h (ix3 0 p k) = v (ix2 p k) := by
  refine shapeCast_apply v h _ _ ?_
  rw [Shape.rowMajor_val_two, Shape.rowMajor_val_three]
  show p.val * N + k.val = (0 * M + p.val) * N + k.val
  rw [Nat.zero_mul, Nat.zero_add]

/-- Adding a unit axis in the middle. -/
theorem cast_mid {α : Type} {M N : ℕ} (v : (⟨2, ![M, N]⟩ : Shape).Idx → α)
    (h : (⟨2, ![M, N]⟩ : Shape).ShapeCasts ⟨3, ![M, 1, N]⟩) (p : Fin M) (k : Fin N) :
    shapeCast ⟨3, ![M, 1, N]⟩ v h (ix3 p 0 k) = v (ix2 p k) := by
  refine shapeCast_apply v h _ _ ?_
  rw [Shape.rowMajor_val_two, Shape.rowMajor_val_three]
  show p.val * N + k.val = (p.val * 1 + 0) * N + k.val
  rw [Nat.mul_one, Nat.add_zero]

/-- A vector as a row. -/
theorem cast_row {α : Type} {N : ℕ} (v : (⟨1, ![N]⟩ : Shape).Idx → α)
    (h : (⟨1, ![N]⟩ : Shape).ShapeCasts ⟨2, ![1, N]⟩) (k : Fin N) :
    shapeCast ⟨2, ![1, N]⟩ v h (ix2 0 k) = v (ix1 k) := by
  refine shapeCast_apply v h _ _ ?_
  rw [Shape.rowMajor_val_two, Shape.rowMajor_val_one]
  show k.val = 0 * N + k.val
  rw [Nat.zero_mul, Nat.zero_add]

/-- A vector as a column. -/
theorem cast_col {α : Type} {N : ℕ} (v : (⟨1, ![N]⟩ : Shape).Idx → α)
    (h : (⟨1, ![N]⟩ : Shape).ShapeCasts ⟨2, ![N, 1]⟩) (k : Fin N) :
    shapeCast ⟨2, ![N, 1]⟩ v h (ix2 k 0) = v (ix1 k) := by
  refine shapeCast_apply v h _ _ ?_
  rw [Shape.rowMajor_val_two, Shape.rowMajor_val_one]
  show k.val = k.val * 1 + 0
  rw [Nat.mul_one, Nat.add_zero]

/-- A row repeated down the rows. -/
theorem repeat_row {α : Type} {M N : ℕ} (hN : N ≠ 1) (v : (⟨2, ![1, N]⟩ : Shape).Idx → α)
    (h : (⟨2, ![1, N]⟩ : Shape).Broadcasts ⟨2, ![M, N]⟩) (p : Fin M) (k : Fin N) :
    broadcastTo ⟨2, ![M, N]⟩ v h (ix2 p k) = v (ix2 0 k) := by
  refine broadcastTo_apply v h _ _ fun a => ?_
  match a with
  | ⟨0, _⟩ => exact (if_pos rfl).symm
  | ⟨1, _⟩ => exact (if_neg hN).symm

/-- A column repeated across the columns. -/
theorem repeat_col {α : Type} {M N : ℕ} (hM : M ≠ 1) (v : (⟨2, ![M, 1]⟩ : Shape).Idx → α)
    (h : (⟨2, ![M, 1]⟩ : Shape).Broadcasts ⟨2, ![M, N]⟩) (p : Fin M) (k : Fin N) :
    broadcastTo ⟨2, ![M, N]⟩ v h (ix2 p k) = v (ix2 p 0) := by
  refine broadcastTo_apply v h _ _ fun a => ?_
  match a with
  | ⟨0, _⟩ => exact (if_neg hM).symm
  | ⟨1, _⟩ => exact (if_pos rfl).symm

/-- A slice of columns, all rows kept. -/
theorem slice_cols {α : Type} {M N L : ℕ} (o : ℕ) (v : (⟨2, ![M, N]⟩ : Shape).Idx → α)
    (h : (⟨2, ![M, N]⟩ : Shape).Slices ![0, o] ⟨2, ![M, L]⟩) (p : Fin M) (k : Fin L) (k' : Fin N) (hk : k'.val = o + k.val) :
    extractStridedSlice ⟨2, ![M, L]⟩ ![0, o] v h (ix2 p k) = v (ix2 p k') := by
  refine extractStridedSlice_apply _ v h _ _ fun a => ?_
  match a with
  | ⟨0, _⟩ => exact (Nat.zero_add _).symm
  | ⟨1, _⟩ => exact hk

/-- A finite sum of real numbers is the same sum of extended reals. -/
theorem coe_sum {ι : Type} [Fintype ι] (f : ι → ℝ) : ((∑ k, f k : ℝ) : EReal) = ∑ k, (f k : EReal) :=
  map_sum (⟨⟨Real.toEReal, EReal.coe_zero⟩, EReal.coe_add⟩ : ℝ →+ EReal) f Finset.univ

/-- A product of matrices of real numbers, entry by entry. -/
theorem product_coe {M K N : ℕ} {φ₁ φ₂ : FTy} (x : FVec Ideal ⟨2, ![M, K]⟩ φ₁) (y : FVec Ideal ⟨2, ![N, K]⟩ φ₂)
    (r : Fin M) (c : Fin N) (X Y : Fin K → ℝ) (hx : ∀ k, x (ix2 r k) = ((X k : ℝ) : EReal)) (hy : ∀ k, y (ix2 c k) = ((Y k : ℝ) : EReal)) :
    matmul (F := Ideal) (DotDims.transposedRhs M K N) none x y (constant ⟨2, ![M, N]⟩ .f32 0x00000000#32) (ix2 r c)
      = ((∑ k, X k * Y k : ℝ) : EReal) := by
  refine (Ideal.matmul_transposedRhs_apply none x y _ r c).trans ?_
  rw [coe_sum]
  show Ideal.ofBits .f32 0x00000000#32 + _ = _
  rw [Ideal.ofBits_zero_f32, zero_add]
  exact Finset.sum_congr rfl fun k _ => (congrArg₂ (· * ·) (hx k) (hy k)).trans (EReal.coe_mul (X k) (Y k)).symm

end Cert.Value

end
-- ==== Proof.Value.Host.lean ====
/-
  What the host operations before the head call leave in the two arrays they
  make: the row scale repeated over the lanes, and the padded column scales
  cut into blocks.
-/
module

public import proofs.«01_k».proof.Proof.Value.Real
public import proofs.«01_k».proof.Proof.Gen.KernelIdeal.Frame
public import Idealize.ShloMosaic.Lib.StableHlo.ReadAt

@[expose] public section

set_option maxRecDepth 16384

noncomputable section

namespace Cert.Value

open Idealize.ShloMosaic Idealize.ShloMosaic.TcCoe Idealize.ShloMosaic.StableHlo
open Cert.KernelIdeal Cert.KernelIdeal.Gen

variable (m : (ℓ : Loc nD τ sig) → Buf (Elt Ideal) ℓ) (c : Dev nD)

/-- The repeated row scale. -/
theorem V_scale (r : Fin 5120) (l : Fin 128) :
    (Gen.V m c main_v1 : Vec Ideal S5120x128 .f32) (ix2 r l) = (m ((c : Thread nD τ).loc main_arg1) : Vec Ideal S5120 .f32) (ix1 r) := by
  unfold Gen.V
  after_reads_at

/-- The blocks of column scales. -/
theorem V_ws (j : Fin 63) (q : Fin 512) (col : Fin 32000) (h : col.val = 512 * j.val + q.val) :
    (Gen.V m c main_v3 : Vec Ideal S63x1x512 .f32) (ix3 j 0 q) = (m ((c : Thread nD τ).loc main_arg3) : Vec Ideal S32000 .f32) (ix1 col) := by
  unfold Gen.V
  after_reads_at
  rw [dif_pos (by have := col.isLt; omega)]
  exact congrArg (m ((c : Thread nD τ).loc main_arg3)) (congrArg ix1 (Fin.ext (by simp only []; omega)))

end Cert.Value

end
-- ==== Proof.Value.Blocks.lean ====
/-
  Where the head call's windows lie in their arrays, and what the body finds in
  the four input windows at a grid point.  Point `t` is the row block `t / 63`
  and the column block `t % 63`.
-/
module

public import proofs.«01_k».proof.Proof.Value.Host
public import proofs.«01_k».proof.Proof.Ideal.Run
public import Idealize.ShloMosaic.Lib.Pipeline.ValueKit.Geometry
public import Idealize.ShloMosaic.Lib.Pipeline.ArrRel

@[expose] public section

set_option maxRecDepth 16384

noncomputable section

namespace Cert.Value

open Idealize.ShloMosaic Idealize.ShloMosaic.TcCoe
open Cert.KernelIdeal Cert.KernelIdeal.Gen Cert.KernelIdeal.Body

/-- The column block of a point. -/
theorem col_block : ∀ t : Fin cfg0.N, ((grid0.coords t) 1).val = t.val % 63 :=
  (by decide +kernel : ∀ t : Fin grid0.N, ((grid0.coords t) 1).val = t.val % 63)

/-- The block of the fields. -/
theorem at0 : ∀ t : Fin cfg0.N, win0_0.index t (0 : Fin 3) = 0 ∧ win0_0.index t (1 : Fin 3) = t.val / 63 ∧ win0_0.index t (2 : Fin 3) = 0 :=
  (by decide +kernel : ∀ t : Fin grid0.N, win0_0.index t (0 : Fin 3) = 0 ∧ win0_0.index t (1 : Fin 3) = t.val / 63 ∧ win0_0.index t (2 : Fin 3) = 0)

/-- The block of the row scale. -/
theorem at1 : ∀ t : Fin cfg0.N, win0_1.index t (0 : Fin 2) = t.val / 63 ∧ win0_1.index t (1 : Fin 2) = 0 :=
  (by decide +kernel : ∀ t : Fin grid0.N, win0_1.index t (0 : Fin 2) = t.val / 63 ∧ win0_1.index t (1 : Fin 2) = 0)

/-- The block of the weights, -/
theorem at2 : ∀ t : Fin cfg0.N, win0_2.index t (0 : Fin 2) = t.val % 63 ∧ win0_2.index t (1 : Fin 2) = 0 :=
  (by decide +kernel : ∀ t : Fin grid0.N, win0_2.index t (0 : Fin 2) = t.val % 63 ∧ win0_2.index t (1 : Fin 2) = 0)

/-- and how much of it lies inside the array. -/
theorem size2 : ∀ t : Fin cfg0.N, win0_2.xsize (grid0.coords t) (0 : Fin 2) = min 512 (32000 - 512 * (t.val % 63)) ∧ win0_2.xsize (grid0.coords t) (1 : Fin 2) = 2560 :=
  (by decide +kernel : ∀ t : Fin grid0.N, win0_2.xsize (grid0.coords t) (0 : Fin 2) = min 512 (32000 - 512 * (t.val % 63)) ∧ win0_2.xsize (grid0.coords t) (1 : Fin 2) = 2560)

/-- The block of the column scales. -/
theorem at3 : ∀ t : Fin cfg0.N, win0_3.index t (0 : Fin 3) = t.val % 63 ∧ win0_3.index t (1 : Fin 3) = 0 ∧ win0_3.index t (2 : Fin 3) = 0 :=
  (by decide +kernel : ∀ t : Fin grid0.N, win0_3.index t (0 : Fin 3) = t.val % 63 ∧ win0_3.index t (1 : Fin 3) = 0 ∧ win0_3.index t (2 : Fin 3) = 0)

/-- The block of the logits. -/
theorem at4 : ∀ t : Fin cfg0.N, win0_4.index t (0 : Fin 3) = t.val / 63 ∧ win0_4.index t (1 : Fin 3) = 0 ∧ win0_4.index t (2 : Fin 3) = t.val % 63 :=
  (by decide +kernel : ∀ t : Fin grid0.N, win0_4.index t (0 : Fin 3) = t.val / 63 ∧ win0_4.index t (1 : Fin 3) = 0 ∧ win0_4.index t (2 : Fin 3) = t.val % 63)

/-- The blocks of the logits cover the array. -/
theorem covers4 : (cfg0.win 4).Covers := by decide +kernel

/-- The point's row block and column block are in range. -/
theorem point_lt (t : Fin cfg0.N) : t.val / 63 < 5 := by
  have h : t.val < 315 := t.isLt
  omega

section

variable (m : (ℓ : Loc nD τ sig) → Buf (Elt Ideal) ℓ)
  (R : (c : Dev nD) → (w : Fin cfg0.W) → Fin cfg0.N → (Y X : (cfg0.win w).block.Idx → Elt Ideal (cfg0.win w).elt) → Prop)
  (Inv : (c : Dev nD) → Fin (cfg0.N + 1) → Scr (F := Ideal) c → Prop) (c : Dev nD) (t : Fin cfg0.N)

/-- The fields at a first column block. -/
theorem finds0 (ht : t.val % 63 = 0) (X : Vec Ideal S2x1024x2560 .i8) (hX : (datOf m R Inv c).Finds 0 t X)
    (h : Fin 2) (r : Fin 1024) (k : Fin 2560) (row : Fin 5120) (hr : row.val = 1024 * (t.val / 63) + r.val) :
    X (ix3 h r k) = (m ((c : Thread nD τ).loc main_arg0) : Vec Ideal S2x5120x2560 .i8) (ix3 h row k) := by
  obtain ⟨d, rfl⟩ := (((datOf m R Inv c).finds_of_fetch ((fetch0_0 t).mpr ht)) X).mp hX
  obtain ⟨e0, e1, e2⟩ := at0 t
  rw [← V_main_arg0 m c]
  show Gen.V m c main_arg0 (((cfg0.win 0).blk t).view.emb (ix3 h r k)) = Gen.V m c main_arg0 (ix3 h row k)
  refine congrArg (Gen.V m c main_arg0) (funext fun a => Fin.ext ?_)
  match a with
  | ⟨0, _⟩ => show win0_0.index t (0 : Fin 3) * 2 + 1 * h.val = h.val; omega
  | ⟨1, _⟩ => show win0_0.index t (1 : Fin 3) * 1024 + 1 * r.val = row.val; omega
  | ⟨2, _⟩ => show win0_0.index t (2 : Fin 3) * 2560 + 1 * k.val = k.val; omega

/-- The row scale at a first column block. -/
theorem finds1 (ht : t.val % 63 = 0) (X : Vec Ideal S1024x128 .f32) (hX : (datOf m R Inv c).Finds 1 t X)
    (r : Fin 1024) (l : Fin 128) (row : Fin 5120) (hr : row.val = 1024 * (t.val / 63) + r.val) :
    X (ix2 r l) = (m ((c : Thread nD τ).loc main_arg1) : Vec Ideal S5120 .f32) (ix1 row) := by
  obtain ⟨d, rfl⟩ := (((datOf m R Inv c).finds_of_fetch ((fetch0_1 t).mpr ht)) X).mp hX
  obtain ⟨e0, e1⟩ := at1 t
  refine Eq.trans ?_ (V_scale m c row l)
  show Gen.V m c main_v1 (((cfg0.win 1).blk t).view.emb (ix2 r l)) = Gen.V m c main_v1 (ix2 row l)
  refine congrArg (Gen.V m c main_v1) (funext fun a => Fin.ext ?_)
  match a with
  | ⟨0, _⟩ => show win0_1.index t (0 : Fin 2) * 1024 + 1 * r.val = row.val; omega
  | ⟨1, _⟩ => show win0_1.index t (1 : Fin 2) * 128 + 1 * l.val = l.val; omega

/-- The weights: inside the array the block's rows, outside anything. -/
theorem finds2 (X : Vec Ideal S512x2560 .i8) (hX : (datOf m R Inv c).Finds 2 t X)
    (q : Fin 512) (k : Fin 2560) (col : Fin 32000) (hc : col.val = 512 * (t.val % 63) + q.val) :
    X (ix2 q k) = (m ((c : Thread nD τ).loc main_arg2) : Vec Ideal S32000x2560 .i8) (ix2 col k) := by
  obtain ⟨d, rfl⟩ := (((datOf m R Inv c).finds_of_fetch (fetch0_2 t)) X).mp hX
  obtain ⟨e0, e1⟩ := at2 t
  obtain ⟨s0, s1⟩ := size2 t
  have hin : win0_2.moved (grid0.coords t) (ix2 q k) = true := (win0_2.moved_iff (grid0.coords t) (ix2 q k)).mpr fun a => by
    match a with
    | ⟨0, _⟩ => exact Nat.lt_of_lt_of_eq (show q.val < min 512 (32000 - 512 * (t.val % 63)) by have := col.isLt; omega) s0.symm
    | ⟨1, _⟩ => exact Nat.lt_of_lt_of_eq k.isLt s1.symm
  rw [← V_main_arg2 m c]
  unfold Pipeline.RDat.fetched Pipeline.Window.fill
  refine (dif_pos hin).trans ?_
  show Gen.V m c main_arg2 (((cfg0.win 2).blk t).view.emb _) = Gen.V m c main_arg2 (ix2 col k)
  refine congrArg (Gen.V m c main_arg2) (funext fun a => Fin.ext ?_)
  match a with
  | ⟨0, _⟩ => show win0_2.index t (0 : Fin 2) * 512 + 1 * q.val = col.val; omega
  | ⟨1, _⟩ => show win0_2.index t (1 : Fin 2) * 2560 + 1 * k.val = k.val; omega

/-- The column scales. -/
theorem finds3 (X : Vec Ideal S1x1x512 .f32) (hX : (datOf m R Inv c).Finds 3 t X)
    (q : Fin 512) (col : Fin 32000) (hc : col.val = 512 * (t.val % 63) + q.val) :
    X (ix3 0 0 q) = (m ((c : Thread nD τ).loc main_arg3) : Vec Ideal S32000 .f32) (ix1 col) := by
  obtain ⟨d, rfl⟩ := (((datOf m R Inv c).finds_of_fetch (fetch0_3 t)) X).mp hX
  obtain ⟨e0, e1, e2⟩ := at3 t
  refine Eq.trans ?_ (V_ws m c ⟨t.val % 63, Nat.mod_lt _ (by decide)⟩ q col hc)
  show Gen.V m c main_v3 (((cfg0.win 3).blk t).view.emb (ix3 0 0 q)) = Gen.V m c main_v3 (ix3 ⟨t.val % 63, Nat.mod_lt _ (by decide)⟩ 0 q)
  refine congrArg (Gen.V m c main_v3) (funext fun a => Fin.ext ?_)
  match a with
  | ⟨0, _⟩ => show win0_3.index t (0 : Fin 3) * 1 + 1 * 0 = t.val % 63; omega
  | ⟨1, _⟩ => show win0_3.index t (1 : Fin 3) * 1 + 1 * 0 = 0; omega
  | ⟨2, _⟩ => show win0_3.index t (2 : Fin 3) * 512 + 1 * q.val = q.val; omega

end

end Cert.Value

end
-- ==== Proof.Value.Arith.lean ====
/-
  The payloads of the head call over the extended reals: the seven
  combinations of code blocks, the nibble matrices, the seven products, and
  the four quarters they are recombined to. Each quarter is the plain sum of
  products, because every entry is a finite real number.
-/
module

public import proofs.«01_k».proof.Proof.Value.Real

@[expose] public section

noncomputable section

namespace Cert.Value

open Idealize.ShloMosaic
open Cert.KernelIdeal Cert.KernelIdeal.Gen

/-! ## The code blocks and their combinations -/

theorem pay8_at (v : Vec Ideal S1x512x2560 .i8) (p : Fin 512) (k : Fin 2560) :
    k0_pay8 (F := Ideal) v (ix2 p k) = Real.toEReal (code (v (ix3 0 p k))) :=
  congrArg (fun b => Real.toEReal (code b)) (cast_drop v shapeCasts_S1x512x2560_S512x2560 p k)

theorem pay9_at (v : Vec Ideal S1x512x2560 .i8) (p : Fin 512) (k : Fin 2560) :
    k0_pay9 (F := Ideal) v (ix2 p k) = Real.toEReal (code (v (ix3 0 p k))) :=
  congrArg (fun b => Real.toEReal (code b)) (cast_drop v shapeCasts_S1x512x2560_S512x2560 p k)

theorem pay10_at (v : Vec Ideal S1x512x2560 .i8) (p : Fin 512) (k : Fin 2560) :
    k0_pay10 (F := Ideal) v (ix2 p k) = Real.toEReal (code (v (ix3 0 p k))) :=
  congrArg (fun b => Real.toEReal (code b)) (cast_drop v shapeCasts_S1x512x2560_S512x2560 p k)

theorem pay11_at (v : Vec Ideal S1x512x2560 .i8) (p : Fin 512) (k : Fin 2560) :
    k0_pay11 (F := Ideal) v (ix2 p k) = Real.toEReal (code (v (ix3 0 p k))) :=
  congrArg (fun b => Real.toEReal (code b)) (cast_drop v shapeCasts_S1x512x2560_S512x2560 p k)

theorem pay12_at (v w : Vec Ideal S1x512x2560 .i8) (p : Fin 512) (k : Fin 2560) :
    k0_pay12 (F := Ideal) v w (ix3 0 p k) = Real.toEReal (code (v (ix3 0 p k)) + code (w (ix3 0 p k))) :=
  (cast_add (addf (k0_pay8 (F := Ideal) v) (k0_pay11 w)) shapeCasts_S512x2560_S1x512x2560 p k).trans
    ((congrArg₂ (· + ·) (pay8_at v p k) (pay11_at w p k)).trans (EReal.coe_add _ _).symm)

theorem pay13_at (v w : Vec Ideal S1x512x2560 .i8) (p : Fin 512) (k : Fin 2560) :
    k0_pay13 (F := Ideal) v w (ix3 0 p k) = Real.toEReal (code (v (ix3 0 p k)) + code (w (ix3 0 p k))) :=
  (cast_add (addf (k0_pay10 (F := Ideal) v) (k0_pay11 w)) shapeCasts_S512x2560_S1x512x2560 p k).trans
    ((congrArg₂ (· + ·) (pay10_at v p k) (pay11_at w p k)).trans (EReal.coe_add _ _).symm)

theorem pay14_at (v : Vec Ideal S1x512x2560 .i8) (p : Fin 512) (k : Fin 2560) :
    k0_pay14 (F := Ideal) v (ix3 0 p k) = Real.toEReal (code (v (ix3 0 p k))) :=
  (cast_add (k0_pay8 (F := Ideal) v) shapeCasts_S512x2560_S1x512x2560 p k).trans (pay8_at v p k)

theorem pay15_at (v : Vec Ideal S1x512x2560 .i8) (p : Fin 512) (k : Fin 2560) :
    k0_pay15 (F := Ideal) v (ix3 0 p k) = Real.toEReal (code (v (ix3 0 p k))) :=
  (cast_add (k0_pay11 (F := Ideal) v) shapeCasts_S512x2560_S1x512x2560 p k).trans (pay11_at v p k)

theorem pay17_at (v w : Vec Ideal S1x512x2560 .i8) (p : Fin 512) (k : Fin 2560) :
    k0_pay17 (F := Ideal) (k0_pay16 v w) (ix3 0 p k) = Real.toEReal (code (v (ix3 0 p k)) + code (w (ix3 0 p k))) :=
  (cast_add (addf (k0_pay8 (F := Ideal) v) (k0_pay9 w)) shapeCasts_S512x2560_S1x512x2560 p k).trans
    ((congrArg₂ (· + ·) (pay8_at v p k) (pay9_at w p k)).trans (EReal.coe_add _ _).symm)

theorem pay18_at (v w : Vec Ideal S1x512x2560 .i8) (p : Fin 512) (k : Fin 2560) :
    k0_pay18 (F := Ideal) (k0_pay8 v) (k0_pay10 w) (ix3 0 p k) = Real.toEReal (code (w (ix3 0 p k)) - code (v (ix3 0 p k))) :=
  (cast_add (subf (k0_pay10 (F := Ideal) w) (k0_pay8 v)) shapeCasts_S512x2560_S1x512x2560 p k).trans
    ((congrArg₂ (· - ·) (pay10_at w p k) (pay8_at v p k)).trans (EReal.coe_sub _ _).symm)

theorem pay19_at (v w : Vec Ideal S1x512x2560 .i8) (p : Fin 512) (k : Fin 2560) :
    k0_pay19 (F := Ideal) (k0_pay9 v) (k0_pay11 w) (ix3 0 p k) = Real.toEReal (code (v (ix3 0 p k)) - code (w (ix3 0 p k))) :=
  (cast_add (subf (k0_pay9 (F := Ideal) v) (k0_pay11 w)) shapeCasts_S512x2560_S1x512x2560 p k).trans
    ((congrArg₂ (· - ·) (pay9_at v p k) (pay11_at w p k)).trans (EReal.coe_sub _ _).symm)

/-! ## The nibble matrices -/

theorem lo_sub (b : BitVec 8) : ((((b &&& 15#8).toNat : ℝ) : EReal) - Ideal.ofBits .bf16 0x4100#16) = Real.toEReal (lo b) := by
  rw [eight_bf16, ← EReal.coe_sub]; rfl

theorem hi_sub (b : BitVec 8) :
    ((((((b.setWidth 32).sshiftRight 4).setWidth 8).toNat : ℝ) : EReal) - Ideal.ofBits .bf16 0x4100#16) = Real.toEReal (hi b) := by
  rw [hi_bits, eight_bf16, ← EReal.coe_sub]; rfl

theorem pay23_at (v : Vec Ideal S256x2560 .i8) (q : Fin 256) (k : Fin 2560) :
    k0_pay23 (F := Ideal) v (ix2 q k) = Real.toEReal (lo (v (ix2 q k))) := lo_sub _

theorem pay24_at (v : Vec Ideal S256x2560 .i8) (q : Fin 256) (k : Fin 2560) :
    k0_pay24 (F := Ideal) v (ix2 q k) = Real.toEReal (lo (v (ix2 q k))) := lo_sub _

theorem pay25_at (v : Vec Ideal S256x2560 .i8) (q : Fin 256) (k : Fin 2560) :
    k0_pay25 (F := Ideal) v (ix2 q k) = Real.toEReal (hi (v (ix2 q k))) := hi_sub _

theorem pay26_at (v : Vec Ideal S256x2560 .i8) (q : Fin 256) (k : Fin 2560) :
    k0_pay26 (F := Ideal) v (ix2 q k) = Real.toEReal (hi (v (ix2 q k))) := hi_sub _

/-! ## The seven products and the four quarters -/

/-- A stored combination against a nibble matrix. -/
theorem prod_at (s : Vec Ideal S1x512x2560 .bf16) (y : FVec Ideal S256x2560 .bf16) (p : Fin 512) (q : Fin 256)
    (X Y : Fin 2560 → ℝ) (hs : ∀ k, s (ix3 0 p k) = Real.toEReal (X k)) (hy : ∀ k, y (ix2 q k) = Real.toEReal (Y k)) :
    matmul (F := Ideal) dot_S512x2560_S256x2560_S512x256_1_1_0_0_n_n none
        (shapeCast S512x2560 s shapeCasts_S1x512x2560_S512x2560 : FVec Ideal S512x2560 .bf16) y
        (constant S512x256 .f32 0x00000000#32) (ix2 p q) = Real.toEReal (∑ k, X k * Y k) :=
  product_coe (M := 512) (K := 2560) (N := 256) _ y p q X Y
    (fun k => (cast_drop s shapeCasts_S1x512x2560_S512x2560 p k).trans (hs k)) hy

variable (w0 w1 : Vec Ideal S256x2560 .i8) (s0 s1 s2 s3 s4 s5 s6 : Vec Ideal S1x512x2560 .bf16) (p : Fin 512) (q : Fin 256)
  (a11 a12 a21 a22 : Fin 2560 → ℝ)

theorem pay27_at (h0 : ∀ k, s0 (ix3 0 p k) = Real.toEReal (a11 k + a22 k)) :
    k0_pay27 (F := Ideal) w0 w1 s0 (ix2 p q) = Real.toEReal (∑ k, (a11 k + a22 k) * (lo (w0 (ix2 q k)) + hi (w1 (ix2 q k)))) :=
  prod_at s0 _ p q _ _ h0 fun k => (congrArg₂ (· + ·) (pay23_at w0 q k) (pay26_at w1 q k)).trans (EReal.coe_add _ _).symm

theorem pay28_at (h1 : ∀ k, s1 (ix3 0 p k) = Real.toEReal (a21 k + a22 k)) :
    k0_pay28 (F := Ideal) (k0_pay23 w0) s1 (ix2 p q) = Real.toEReal (∑ k, (a21 k + a22 k) * lo (w0 (ix2 q k))) :=
  prod_at s1 _ p q _ _ h1 (pay23_at w0 q)

theorem pay29_at (h2 : ∀ k, s2 (ix3 0 p k) = Real.toEReal (a11 k)) :
    k0_pay29 (F := Ideal) (k0_pay24 w1) (k0_pay26 w1) s2 (ix2 p q) = Real.toEReal (∑ k, a11 k * (lo (w1 (ix2 q k)) - hi (w1 (ix2 q k)))) :=
  prod_at s2 _ p q _ _ h2 fun k => (congrArg₂ (· - ·) (pay24_at w1 q k) (pay26_at w1 q k)).trans (EReal.coe_sub _ _).symm

theorem pay30_at (h3 : ∀ k, s3 (ix3 0 p k) = Real.toEReal (a22 k)) :
    k0_pay30 (F := Ideal) (k0_pay23 w0) (k0_pay25 w0) s3 (ix2 p q) = Real.toEReal (∑ k, a22 k * (hi (w0 (ix2 q k)) - lo (w0 (ix2 q k)))) :=
  prod_at s3 _ p q _ _ h3 fun k => (congrArg₂ (· - ·) (pay25_at w0 q k) (pay23_at w0 q k)).trans (EReal.coe_sub _ _).symm

theorem pay31_at (h4 : ∀ k, s4 (ix3 0 p k) = Real.toEReal (a11 k + a12 k)) :
    k0_pay31 (F := Ideal) (k0_pay26 w1) s4 (ix2 p q) = Real.toEReal (∑ k, (a11 k + a12 k) * hi (w1 (ix2 q k))) :=
  prod_at s4 _ p q _ _ h4 (pay26_at w1 q)

theorem m5_at (h5 : ∀ k, s5 (ix3 0 p k) = Real.toEReal (a21 k - a11 k)) :
    matmul (F := Ideal) dot_S512x2560_S256x2560_S512x256_1_1_0_0_n_n none
        (shapeCast S512x2560 s5 shapeCasts_S1x512x2560_S512x2560 : FVec Ideal S512x2560 .bf16) (addf (k0_pay23 w0) (k0_pay24 w1))
        (constant S512x256 .f32 0x00000000#32) (ix2 p q)
      = Real.toEReal (∑ k, (a21 k - a11 k) * (lo (w0 (ix2 q k)) + lo (w1 (ix2 q k)))) :=
  prod_at s5 _ p q _ _ h5 fun k => (congrArg₂ (· + ·) (pay23_at w0 q k) (pay24_at w1 q k)).trans (EReal.coe_add _ _).symm

theorem m6_at (h6 : ∀ k, s6 (ix3 0 p k) = Real.toEReal (a12 k - a22 k)) :
    matmul (F := Ideal) dot_S512x2560_S256x2560_S512x256_1_1_0_0_n_n none
        (shapeCast S512x2560 s6 shapeCasts_S1x512x2560_S512x2560 : FVec Ideal S512x2560 .bf16) (addf (k0_pay25 w0) (k0_pay26 w1))
        (constant S512x256 .f32 0x00000000#32) (ix2 p q)
      = Real.toEReal (∑ k, (a12 k - a22 k) * (hi (w0 (ix2 q k)) + hi (w1 (ix2 q k)))) :=
  prod_at s6 _ p q _ _ h6 fun k => (congrArg₂ (· + ·) (pay25_at w0 q k) (pay26_at w1 q k)).trans (EReal.coe_add _ _).symm

/-- Two real numbers' sum, difference, as extended reals, under known values. -/
theorem add_val {x y : EReal} {a b : ℝ} (hx : x = Real.toEReal a) (hy : y = Real.toEReal b) : x + y = Real.toEReal (a + b) := by
  rw [hx, hy, EReal.coe_add]

theorem sub_val {x y : EReal} {a b : ℝ} (hx : x = Real.toEReal a) (hy : y = Real.toEReal b) : x - y = Real.toEReal (a - b) := by
  rw [hx, hy, EReal.coe_sub]

/-- What a quarter of the product is: the low half against the low nibbles
    plus the high half against the high nibbles. -/
def plain (x y : Fin 2560 → ℝ) (w : Fin 2560 → BitVec 8) : ℝ := (∑ k, x k * lo (w k)) + ∑ k, y k * hi (w k)

theorem c11_at (h0 : ∀ k, s0 (ix3 0 p k) = Real.toEReal (a11 k + a22 k)) (h3 : ∀ k, s3 (ix3 0 p k) = Real.toEReal (a22 k))
    (h4 : ∀ k, s4 (ix3 0 p k) = Real.toEReal (a11 k + a12 k)) (h6 : ∀ k, s6 (ix3 0 p k) = Real.toEReal (a12 k - a22 k)) :
    k0_pay32 (F := Ideal) (k0_pay23 w0) (k0_pay25 w0) (k0_pay26 w1) (k0_pay27 w0 w1 s0) s3 s4 s6 (ix2 p q)
      = Real.toEReal (plain a11 a12 fun k => w0 (ix2 q k)) := by
  refine (add_val (sub_val (add_val (pay27_at w0 w1 s0 p q a11 a22 h0) (pay30_at w0 s3 p q a22 h3))
    (pay31_at w1 s4 p q a11 a12 h4)) (m6_at w0 w1 s6 p q a12 a22 h6)).trans (congrArg Real.toEReal ?_)
  unfold plain
  simp only [← Finset.sum_add_distrib, ← Finset.sum_sub_distrib]
  exact Finset.sum_congr rfl fun k _ => by ring

theorem c12_at (h2 : ∀ k, s2 (ix3 0 p k) = Real.toEReal (a11 k)) (h4 : ∀ k, s4 (ix3 0 p k) = Real.toEReal (a11 k + a12 k)) :
    k0_pay33 (F := Ideal) (k0_pay24 w1) (k0_pay26 w1) s2 s4 (ix2 p q) = Real.toEReal (plain a11 a12 fun k => w1 (ix2 q k)) := by
  refine (add_val (pay29_at w1 s2 p q a11 h2) (pay31_at w1 s4 p q a11 a12 h4)).trans (congrArg Real.toEReal ?_)
  unfold plain
  simp only [← Finset.sum_add_distrib]
  exact Finset.sum_congr rfl fun k _ => by ring

theorem c21_at (h1 : ∀ k, s1 (ix3 0 p k) = Real.toEReal (a21 k + a22 k)) (h3 : ∀ k, s3 (ix3 0 p k) = Real.toEReal (a22 k)) :
    k0_pay34 (F := Ideal) (k0_pay23 w0) (k0_pay25 w0) s1 s3 (ix2 p q) = Real.toEReal (plain a21 a22 fun k => w0 (ix2 q k)) := by
  refine (add_val (pay28_at w0 s1 p q a21 a22 h1) (pay30_at w0 s3 p q a22 h3)).trans (congrArg Real.toEReal ?_)
  unfold plain
  simp only [← Finset.sum_add_distrib]
  exact Finset.sum_congr rfl fun k _ => by ring

theorem c22_at (h0 : ∀ k, s0 (ix3 0 p k) = Real.toEReal (a11 k + a22 k)) (h1 : ∀ k, s1 (ix3 0 p k) = Real.toEReal (a21 k + a22 k))
    (h2 : ∀ k, s2 (ix3 0 p k) = Real.toEReal (a11 k)) (h5 : ∀ k, s5 (ix3 0 p k) = Real.toEReal (a21 k - a11 k)) :
    k0_pay35 (F := Ideal) (k0_pay23 w0) (k0_pay24 w1) (k0_pay26 w1) (k0_pay27 w0 w1 s0) s1 s2 s5 (ix2 p q)
      = Real.toEReal (plain a21 a22 fun k => w1 (ix2 q k)) := by
  refine (add_val (add_val (sub_val (pay27_at w0 w1 s0 p q a11 a22 h0) (pay28_at w0 s1 p q a21 a22 h1))
    (pay29_at w1 s2 p q a11 h2)) (m5_at w0 w1 s5 p q a11 a21 h5)).trans (congrArg Real.toEReal ?_)
  unfold plain
  simp only [← Finset.sum_add_distrib, ← Finset.sum_sub_distrib]
  exact Finset.sum_congr rfl fun k _ => by ring

end Cert.Value

end
-- ==== Proof.Value.Pieces.lean ====
/-
  What the head call's eight stores leave in a block of logits, and what its
  seven stores leave in the scratch of combinations.
-/
module

public import proofs.«01_k».proof.Proof.Value.Arith
public import Idealize.ShloMosaic.Lib.WritesUnit

@[expose] public section

noncomputable section

namespace Cert.Value

open Idealize.ShloMosaic
open Cert.KernelIdeal Cert.KernelIdeal.Gen

/-! ## One scaled piece -/

/-- A same-shape cast reads the same. -/
theorem cast_self {α : Type} {s : Shape} (x : s.Idx → α) (h : s.ShapeCasts s) : shapeCast s x h = x :=
  funext fun j => shapeCast_apply x h j j rfl

/-- A quarter's columns from `o`, scaled by the row and by the column. -/
theorem scaled_at (o : ℕ) (C : FVec Ideal S512x256 .f32) (R : Vec Ideal S512x128 .f32) (u : Vec Ideal S1x1x128 .f32)
    (h : S512x256.Slices ![0, o] S512x128) (p : Fin 512) (l : Fin 128) (l' : Fin 256) (hl : l'.val = o + l.val) :
    (shapeCast S512x1x128 (mulf (mulf (extractStridedSlice S512x128 ![0, o] C h) (shapeCast S512x128 R shapeCasts_S512x128_S512x128))
        (broadcastTo S512x128 (shapeCast S1x128 u shapeCasts_S1x1x128_S1x128) broadcasts_S1x128_S512x128) : FVec Ideal S512x128 .f32)
        shapeCasts_S512x128_S512x1x128) (ix3 p 0 l)
      = C (ix2 p l') * R (ix2 p l) * u (ix3 0 0 l) := by
  rw [cast_self R]
  refine (cast_mid (M := 512) (N := 128) _ shapeCasts_S512x128_S512x1x128 p l).trans ?_
  refine congrArg₂ (· * ·) (congrArg₂ (· * ·) (slice_cols (M := 512) (N := 256) (L := 128) o C h p l l' hl) rfl) ?_
  exact (repeat_row (M := 512) (N := 128) (by decide) _ broadcasts_S1x128_S512x128 p l).trans
    (cast_drop (M := 1) (N := 128) u shapeCasts_S1x1x128_S1x128 0 l)

/-! ## Reading a list of stores -/

section
variable {Val : EltTy → Type} {sig : RefSig} {κ : Kind} {sp : Space} {e : EltTy}

/-- One store of a [512, 1, 128] piece at row `o₁`, column `o₂` of a [1024, 1, 512] block. -/
theorem piece_step (v : View sig κ sp S1024x1x512 e) (f : v.ty.Contents Val) (o₁ o₂ : ℕ)
    (inb : ∀ a, (![o₁, 0, o₂] : Fin 3 → ℕ) a + S512x1x128.size a ≤ S1024x1x512.size a)
    (w : (Rect.unit (s := S1024x1x512) ![o₁, 0, o₂] S512x1x128.size inb).shape.Idx → Val e) (L : List (View.Piece Val S1024x1x512 e))
    (r : Fin 1024) (c : Fin 512) (x : Val e)
    (hw : ∀ (p : Fin 512) (l : Fin 128), r.val = o₁ + p.val → c.val = o₂ + l.val → w (ix3 p 0 l) = x)
    (hL : ¬ (o₁ ≤ r.val ∧ r.val < o₁ + 512 ∧ o₂ ≤ c.val ∧ c.val < o₂ + 128) → v.read Val (v.writes Val f L) (ix3 r 0 c) = x) :
    v.read Val (v.writes Val f ((⟨Rect.unit (s := S1024x1x512) ![o₁, 0, o₂] S512x1x128.size inb, w⟩ : View.Piece Val S1024x1x512 e) :: L)) (ix3 r 0 c) = x := by
  by_cases h : o₁ ≤ r.val ∧ r.val < o₁ + 512 ∧ o₂ ≤ c.val ∧ c.val < o₂ + 128
  · refine (View.read_writes_cons_unit_of_mem v f inb w L (ix3 r 0 c)
      (ix3 (⟨r.val - o₁, by omega⟩ : Fin 512) (0 : Fin 1) (⟨c.val - o₂, by omega⟩ : Fin 128)) rfl fun a => ?_).trans
      (hw ⟨r.val - o₁, by omega⟩ ⟨c.val - o₂, by omega⟩ (by show r.val = o₁ + (r.val - o₁); omega) (by show c.val = o₂ + (c.val - o₂); omega))
    match a with
    | ⟨0, _⟩ => show r.val = o₁ + (r.val - o₁); omega
    | ⟨1, _⟩ => rfl
    | ⟨2, _⟩ => show c.val = o₂ + (c.val - o₂); omega
  · rw [← hL h]
    by_cases h1 : o₁ ≤ r.val ∧ r.val < o₁ + 512
    · exact View.read_writes_cons_unit_of_not_mem v f inb w L (ix3 r 0 c) rfl 2 (by show c.val < o₂ ∨ o₂ + 128 ≤ c.val; omega)
    · exact View.read_writes_cons_unit_of_not_mem v f inb w L (ix3 r 0 c) rfl 0 (by show r.val < o₁ ∨ o₁ + 512 ≤ r.val; omega)

/-- One store of a [1, 512, 2560] piece at slot `o` of the [7, 512, 2560] scratch. -/
theorem slot_step (v : View sig κ sp S7x512x2560 e) (f : v.ty.Contents Val) (o : ℕ)
    (inb : ∀ a, (![o, 0, 0] : Fin 3 → ℕ) a + S1x512x2560.size a ≤ S7x512x2560.size a)
    (w : (Rect.unit (s := S7x512x2560) ![o, 0, 0] S1x512x2560.size inb).shape.Idx → Val e) (L : List (View.Piece Val S7x512x2560 e))
    (s : Fin 7) (p : Fin 512) (k : Fin 2560) (x : Val e)
    (hw : s.val = o → w (ix3 0 p k) = x) (hL : s.val ≠ o → v.read Val (v.writes Val f L) (ix3 s p k) = x) :
    v.read Val (v.writes Val f ((⟨Rect.unit (s := S7x512x2560) ![o, 0, 0] S1x512x2560.size inb, w⟩ : View.Piece Val S7x512x2560 e) :: L)) (ix3 s p k) = x := by
  by_cases h : s.val = o
  · refine (View.read_writes_cons_unit_of_mem v f inb w L (ix3 s p k) (ix3 (0 : Fin 1) p k) rfl fun a => ?_).trans (hw h)
    match a with
    | ⟨0, _⟩ => exact h
    | ⟨1, _⟩ => exact (Nat.zero_add _).symm
    | ⟨2, _⟩ => exact (Nat.zero_add _).symm
  · rw [← hL h]
    exact View.read_writes_cons_unit_of_not_mem v f inb w L (ix3 s p k) rfl 0 (by show s.val < o ∨ o + 1 ≤ s.val; omega)

end

/-! ## The scratch of combinations -/

/-- The upper row `p` of a block of 1024. -/
def up (p : Fin 512) : Fin 1024 := ⟨p.val, by omega⟩
/-- The lower row `p` of a block of 1024. -/
def dn (p : Fin 512) : Fin 1024 := ⟨512 + p.val, by omega⟩

/-- The seven combinations of a block of codes `X`. -/
def comb (X : Fin 2 → Fin 1024 → Fin 2560 → ℝ) (p : Fin 512) (k : Fin 2560) : ℕ → ℝ
  | 0 => X 0 (up p) k + X 1 (dn p) k
  | 1 => X 0 (dn p) k + X 1 (dn p) k
  | 2 => X 0 (up p) k
  | 3 => X 1 (dn p) k
  | 4 => X 0 (up p) k + X 1 (up p) k
  | 5 => X 0 (dn p) k - X 0 (up p) k
  | _ => X 1 (up p) k - X 1 (dn p) k

section
variable {sig : RefSig} {κ : Kind} {sp : Space}

/-- The seven stores leave the seven combinations. -/
theorem seven_at (v : View sig κ sp S7x512x2560 .bf16) (f : v.ty.Contents (Elt Ideal)) (X : Fin 2 → Fin 1024 → Fin 2560 → ℝ)
    (v11 v12 v21 v22 : Vec Ideal S1x512x2560 .i8)
    (i0 i1 i2 i3 i4 i5 i6)
    (h11 : ∀ p k, code (v11 (ix3 0 p k)) = X 0 (up p) k) (h12 : ∀ p k, code (v12 (ix3 0 p k)) = X 1 (up p) k)
    (h21 : ∀ p k, code (v21 (ix3 0 p k)) = X 0 (dn p) k) (h22 : ∀ p k, code (v22 (ix3 0 p k)) = X 1 (dn p) k)
    (s : Fin 7) (p : Fin 512) (k : Fin 2560) :
    v.read (Elt Ideal) (v.writes (Elt Ideal) f
      [(⟨Rect.unit (s := S7x512x2560) ![6, 0, 0] S1x512x2560.size i6, k0_pay19 (F := Ideal) (k0_pay9 v12) (k0_pay11 v22)⟩ : View.Piece (Elt Ideal) S7x512x2560 .bf16),
       ⟨Rect.unit (s := S7x512x2560) ![5, 0, 0] S1x512x2560.size i5, k0_pay18 (F := Ideal) (k0_pay8 v11) (k0_pay10 v21)⟩,
       ⟨Rect.unit (s := S7x512x2560) ![4, 0, 0] S1x512x2560.size i4, k0_pay17 (F := Ideal) (k0_pay16 v11 v12)⟩,
       ⟨Rect.unit (s := S7x512x2560) ![3, 0, 0] S1x512x2560.size i3, k0_pay15 (F := Ideal) v22⟩,
       ⟨Rect.unit (s := S7x512x2560) ![2, 0, 0] S1x512x2560.size i2, k0_pay14 (F := Ideal) v11⟩,
       ⟨Rect.unit (s := S7x512x2560) ![1, 0, 0] S1x512x2560.size i1, k0_pay13 (F := Ideal) v21 v22⟩,
       ⟨Rect.unit (s := S7x512x2560) ![0, 0, 0] S1x512x2560.size i0, k0_pay12 (F := Ideal) v11 v22⟩]) (ix3 s p k)
      = Real.toEReal (comb X p k s.val) := by
  refine slot_step v f 6 i6 _ _ s p k _ (fun h => ?_) fun n6 => ?_
  · rw [h]; exact (pay19_at v12 v22 p k).trans (by rw [h12, h22]; rfl)
  refine slot_step v f 5 i5 _ _ s p k _ (fun h => ?_) fun n5 => ?_
  · rw [h]; exact (pay18_at v11 v21 p k).trans (by rw [h11, h21]; rfl)
  refine slot_step v f 4 i4 _ _ s p k _ (fun h => ?_) fun n4 => ?_
  · rw [h]; exact (pay17_at v11 v12 p k).trans (by rw [h11, h12]; rfl)
  refine slot_step v f 3 i3 _ _ s p k _ (fun h => ?_) fun n3 => ?_
  · rw [h]; exact (pay15_at v22 p k).trans (by rw [h22]; rfl)
  refine slot_step v f 2 i2 _ _ s p k _ (fun h => ?_) fun n2 => ?_
  · rw [h]; exact (pay14_at v11 p k).trans (by rw [h11]; rfl)
  refine slot_step v f 1 i1 _ _ s p k _ (fun h => ?_) fun n1 => ?_
  · rw [h]; exact (pay13_at v21 v22 p k).trans (by rw [h21, h22]; rfl)
  refine slot_step v f 0 i0 _ _ s p k _ (fun h => ?_) fun n0 => ?_
  · rw [h]; exact (pay12_at v11 v22 p k).trans (by rw [h11, h22]; rfl)
  exact absurd s.isLt (by omega)

/-! ## The block of logits -/

/-- The eight stores leave, at row `r` and column `c`, the plain sum of
    products of that row and column, scaled by the row and by the column. -/
theorem eight_at (v : View sig κ sp S1024x1x512 .f32) (f : v.ty.Contents (Elt Ideal)) (X : Fin 2 → Fin 1024 → Fin 2560 → ℝ)
    (W : Fin 512 → Fin 2560 → BitVec 8) (σ : Fin 1024 → EReal) (τ : Fin 512 → EReal)
    (w0 w1 : Vec Ideal S256x2560 .i8) (s0 s1 s2 s3 s4 s5 s6 : Vec Ideal S1x512x2560 .bf16)
    (R0 R1 : Vec Ideal S512x128 .f32) (u0 u1 u2 u3 : Vec Ideal S1x1x128 .f32)
    (i00 i01 i02 i03 i10 i11 i12 i13)
    (hw0 : ∀ (q : Fin 256) (k : Fin 2560), w0 (ix2 q k) = W ⟨q.val, by omega⟩ k)
    (hw1 : ∀ (q : Fin 256) (k : Fin 2560), w1 (ix2 q k) = W ⟨256 + q.val, by omega⟩ k)
    (h0 : ∀ p k, s0 (ix3 0 p k) = Real.toEReal (comb X p k 0)) (h1 : ∀ p k, s1 (ix3 0 p k) = Real.toEReal (comb X p k 1))
    (h2 : ∀ p k, s2 (ix3 0 p k) = Real.toEReal (comb X p k 2)) (h3 : ∀ p k, s3 (ix3 0 p k) = Real.toEReal (comb X p k 3))
    (h4 : ∀ p k, s4 (ix3 0 p k) = Real.toEReal (comb X p k 4)) (h5 : ∀ p k, s5 (ix3 0 p k) = Real.toEReal (comb X p k 5))
    (h6 : ∀ p k, s6 (ix3 0 p k) = Real.toEReal (comb X p k 6))
    (hR0 : ∀ (p : Fin 512) (l : Fin 128), R0 (ix2 p l) = σ (up p)) (hR1 : ∀ (p : Fin 512) (l : Fin 128), R1 (ix2 p l) = σ (dn p))
    (hu0 : ∀ l : Fin 128, u0 (ix3 0 0 l) = τ ⟨0 + l.val, by omega⟩) (hu1 : ∀ l : Fin 128, u1 (ix3 0 0 l) = τ ⟨128 + l.val, by omega⟩)
    (hu2 : ∀ l : Fin 128, u2 (ix3 0 0 l) = τ ⟨256 + l.val, by omega⟩) (hu3 : ∀ l : Fin 128, u3 (ix3 0 0 l) = τ ⟨384 + l.val, by omega⟩)
    (r : Fin 1024) (c : Fin 512) :
    v.read (Elt Ideal) (v.writes (Elt Ideal) f
      [(⟨Rect.unit (s := S1024x1x512) ![512, 0, 384] S512x1x128.size i13, k0_pay83 (F := Ideal) (k0_pay35 (k0_pay23 w0) (k0_pay24 w1) (k0_pay26 w1) (k0_pay27 w0 w1 s0) s1 s2 s5) (k0_pay63 R1) u3⟩ : View.Piece (Elt Ideal) S1024x1x512 .f32),
       ⟨Rect.unit (s := S1024x1x512) ![512, 0, 256] S512x1x128.size i12, k0_pay77 (F := Ideal) (k0_pay35 (k0_pay23 w0) (k0_pay24 w1) (k0_pay26 w1) (k0_pay27 w0 w1 s0) s1 s2 s5) (k0_pay63 R1) u2⟩,
       ⟨Rect.unit (s := S1024x1x512) ![512, 0, 128] S512x1x128.size i11, k0_pay70 (F := Ideal) (k0_pay34 (k0_pay23 w0) (k0_pay25 w0) s1 s3) (k0_pay63 R1) u1⟩,
       ⟨Rect.unit (s := S1024x1x512) ![512, 0, 0] S512x1x128.size i10, k0_pay65 (F := Ideal) (k0_pay64 (k0_pay34 (k0_pay23 w0) (k0_pay25 w0) s1 s3) R1 u0)⟩,
       ⟨Rect.unit (s := S1024x1x512) ![0, 0, 384] S512x1x128.size i03, k0_pay57 (F := Ideal) (k0_pay56 (k0_pay33 (k0_pay24 w1) (k0_pay26 w1) s2 s4) (k0_pay36 R0) u3)⟩,
       ⟨Rect.unit (s := S1024x1x512) ![0, 0, 256] S512x1x128.size i02, k0_pay50 (F := Ideal) (k0_pay33 (k0_pay24 w1) (k0_pay26 w1) s2 s4) (k0_pay36 R0) u2⟩,
       ⟨Rect.unit (s := S1024x1x512) ![0, 0, 128] S512x1x128.size i01, k0_pay45 (F := Ideal) (k0_pay32 (k0_pay23 w0) (k0_pay25 w0) (k0_pay26 w1) (k0_pay27 w0 w1 s0) s3 s4 s6) (k0_pay36 R0) u1⟩,
       ⟨Rect.unit (s := S1024x1x512) ![0, 0, 0] S512x1x128.size i00, k0_pay38 (F := Ideal) (k0_pay32 (k0_pay23 w0) (k0_pay25 w0) (k0_pay26 w1) (k0_pay27 w0 w1 s0) s3 s4 s6) (k0_pay36 R0) u0⟩]) (ix3 r 0 c)
      = Real.toEReal (plain (X 0 r) (X 1 r) (W c)) * σ r * τ c := by
  have e0 : ∀ (q : Fin 256) (c : Fin 512), c.val = q.val → (fun k => w0 (ix2 q k)) = W c := fun q c h =>
    funext fun k => (hw0 q k).trans (congrArg (fun c => W c k) (Fin.ext h.symm))
  have e1 : ∀ (q : Fin 256) (c : Fin 512), c.val = 256 + q.val → (fun k => w1 (ix2 q k)) = W c := fun q c h =>
    funext fun k => (hw1 q k).trans (congrArg (fun c => W c k) (Fin.ext h.symm))
  have eu : ∀ (p : Fin 512) (r : Fin 1024), r.val = 0 + p.val → up p = r := fun p r h => Fin.ext (by rw [h, Nat.zero_add]; rfl)
  have ed : ∀ (p : Fin 512) (r : Fin 1024), r.val = 512 + p.val → dn p = r := fun p r h => Fin.ext h.symm
  refine piece_step v f 512 384 i13 _ _ r c _ (fun p l hr hc => ?_) fun n13 => ?_
  · refine (scaled_at 128 _ R1 u3 slices_S512x256_o0_128_S512x128 p l ⟨128 + l.val, by omega⟩ rfl).trans ?_
    rw [c22_at w0 w1 s0 s1 s2 s5 p ⟨128 + l.val, by omega⟩ (X 0 (up p)) (X 0 (dn p)) (X 1 (dn p)) (h0 p) (h1 p) (h2 p) (h5 p),
      e1 ⟨128 + l.val, by omega⟩ c (by rw [hc]; show _ = 256 + (128 + l.val); omega), hR1 p l, hu3 l, ed p r hr,
      show (⟨384 + l.val, by omega⟩ : Fin 512) = c from Fin.ext hc.symm]
  refine piece_step v f 512 256 i12 _ _ r c _ (fun p l hr hc => ?_) fun n12 => ?_
  · refine (scaled_at 0 _ R1 u2 slices_S512x256_o0_0_S512x128 p l ⟨0 + l.val, by omega⟩ rfl).trans ?_
    rw [c22_at w0 w1 s0 s1 s2 s5 p ⟨0 + l.val, by omega⟩ (X 0 (up p)) (X 0 (dn p)) (X 1 (dn p)) (h0 p) (h1 p) (h2 p) (h5 p),
      e1 ⟨0 + l.val, by omega⟩ c (by rw [hc]; show _ = 256 + (0 + l.val); omega), hR1 p l, hu2 l, ed p r hr,
      show (⟨256 + l.val, by omega⟩ : Fin 512) = c from Fin.ext hc.symm]
  refine piece_step v f 512 128 i11 _ _ r c _ (fun p l hr hc => ?_) fun n11 => ?_
  · refine (scaled_at 128 _ R1 u1 slices_S512x256_o0_128_S512x128 p l ⟨128 + l.val, by omega⟩ rfl).trans ?_
    rw [c21_at w0 s1 s3 p ⟨128 + l.val, by omega⟩ (X 0 (dn p)) (X 1 (dn p)) (h1 p) (h3 p),
      e0 ⟨128 + l.val, by omega⟩ c hc, hR1 p l, hu1 l, ed p r hr,
      show (⟨128 + l.val, by omega⟩ : Fin 512) = c from Fin.ext hc.symm]
  refine piece_step v f 512 0 i10 _ _ r c _ (fun p l hr hc => ?_) fun n10 => ?_
  · refine (scaled_at 0 _ R1 u0 slices_S512x256_o0_0_S512x128 p l ⟨0 + l.val, by omega⟩ rfl).trans ?_
    rw [c21_at w0 s1 s3 p ⟨0 + l.val, by omega⟩ (X 0 (dn p)) (X 1 (dn p)) (h1 p) (h3 p),
      e0 ⟨0 + l.val, by omega⟩ c hc, hR1 p l, hu0 l, ed p r hr,
      show (⟨0 + l.val, by omega⟩ : Fin 512) = c from Fin.ext hc.symm]
  refine piece_step v f 0 384 i03 _ _ r c _ (fun p l hr hc => ?_) fun n03 => ?_
  · refine (scaled_at 128 _ R0 u3 slices_S512x256_o0_128_S512x128 p l ⟨128 + l.val, by omega⟩ rfl).trans ?_
    rw [c12_at w1 s2 s4 p ⟨128 + l.val, by omega⟩ (X 0 (up p)) (X 1 (up p)) (h2 p) (h4 p),
      e1 ⟨128 + l.val, by omega⟩ c (by rw [hc]; show _ = 256 + (128 + l.val); omega), hR0 p l, hu3 l, eu p r hr,
      show (⟨384 + l.val, by omega⟩ : Fin 512) = c from Fin.ext hc.symm]
  refine piece_step v f 0 256 i02 _ _ r c _ (fun p l hr hc => ?_) fun n02 => ?_
  · refine (scaled_at 0 _ R0 u2 slices_S512x256_o0_0_S512x128 p l ⟨0 + l.val, by omega⟩ rfl).trans ?_
    rw [c12_at w1 s2 s4 p ⟨0 + l.val, by omega⟩ (X 0 (up p)) (X 1 (up p)) (h2 p) (h4 p),
      e1 ⟨0 + l.val, by omega⟩ c (by rw [hc]; show _ = 256 + (0 + l.val); omega), hR0 p l, hu2 l, eu p r hr,
      show (⟨256 + l.val, by omega⟩ : Fin 512) = c from Fin.ext hc.symm]
  refine piece_step v f 0 128 i01 _ _ r c _ (fun p l hr hc => ?_) fun n01 => ?_
  · refine (scaled_at 128 _ R0 u1 slices_S512x256_o0_128_S512x128 p l ⟨128 + l.val, by omega⟩ rfl).trans ?_
    rw [c11_at w0 w1 s0 s3 s4 s6 p ⟨128 + l.val, by omega⟩ (X 0 (up p)) (X 1 (up p)) (X 1 (dn p)) (h0 p) (h3 p) (h4 p) (h6 p),
      e0 ⟨128 + l.val, by omega⟩ c hc, hR0 p l, hu1 l, eu p r hr,
      show (⟨128 + l.val, by omega⟩ : Fin 512) = c from Fin.ext hc.symm]
  refine piece_step v f 0 0 i00 _ _ r c _ (fun p l hr hc => ?_) fun n00 => ?_
  · refine (scaled_at 0 _ R0 u0 slices_S512x256_o0_0_S512x128 p l ⟨0 + l.val, by omega⟩ rfl).trans ?_
    rw [c11_at w0 w1 s0 s3 s4 s6 p ⟨0 + l.val, by omega⟩ (X 0 (up p)) (X 1 (up p)) (X 1 (dn p)) (h0 p) (h3 p) (h4 p) (h6 p),
      e0 ⟨0 + l.val, by omega⟩ c hc, hR0 p l, hu0 l, eu p r hr,
      show (⟨0 + l.val, by omega⟩ : Fin 512) = c from Fin.ext hc.symm]
  exact absurd r.isLt (by have := c.isLt; omega)

end

end Cert.Value

end
-- ==== Proof.Value.Points.lean ====
/-
  What a grid point of the head call leaves: the block of logits it computes,
  and the scratch of combinations, for a first, a middle and a last column
  block.
-/
module

public import proofs.«01_k».proof.Proof.Value.Pieces
public import proofs.«01_k».proof.Proof.Ideal.Region

@[expose] public section

set_option maxRecDepth 16384

noncomputable section

namespace Cert.Value

open Idealize.ShloMosaic Idealize.ShloMosaic.TcCoe
open Cert.KernelIdeal Cert.KernelIdeal.Gen Cert.KernelIdeal.Body

/-- A load of a rectangle of a buffer that reads `Y`. -/
theorem load_at {sp : Space} {S : Shape} {e : EltTy} (M : Memref sig .tc sp S e) (h : M.IsWhole) (Y : S.Idx → Elt Ideal e)
    (R : LoadRect S) (x : R.shape.Idx) (y : S.Idx) (hxy : R.idx x = y) :
    M.view.readAt (Elt Ideal) R (h.unread Y) x = Y y :=
  (congrFun (h.read_unread Y) (R.idx x)).trans (congrArg Y hxy)

/-- Where a rectangle of a rank-2 buffer has its element. -/
theorem idx2 {A B a b : ℕ} (o₁ o₂ : ℕ) (inb : ∀ i, (![o₁, o₂] : Fin 2 → ℕ) i + (![a, b] : Fin 2 → ℕ) i ≤ (⟨2, ![A, B]⟩ : Shape).size i)
    (x : Fin a) (y : Fin b) (x' : Fin A) (y' : Fin B) (hx : x'.val = o₁ + x.val) (hy : y'.val = o₂ + y.val) :
    (Rect.unit (s := ⟨2, ![A, B]⟩) ![o₁, o₂] ![a, b] inb).toLoadRect.idx (ix2 x y) = ix2 x' y' :=
  funext fun i => Fin.ext (by
    match i with
    | ⟨0, _⟩ => show o₁ + 1 * x.val = x'.val; omega
    | ⟨1, _⟩ => show o₂ + 1 * y.val = y'.val; omega)

/-- Where a rectangle of a rank-3 buffer has its element. -/
theorem idx3 {A B C a b d : ℕ} (o₁ o₂ o₃ : ℕ)
    (inb : ∀ i, (![o₁, o₂, o₃] : Fin 3 → ℕ) i + (![a, b, d] : Fin 3 → ℕ) i ≤ (⟨3, ![A, B, C]⟩ : Shape).size i)
    (x : Fin a) (y : Fin b) (z : Fin d) (x' : Fin A) (y' : Fin B) (z' : Fin C)
    (hx : x'.val = o₁ + x.val) (hy : y'.val = o₂ + y.val) (hz : z'.val = o₃ + z.val) :
    (Rect.unit (s := ⟨3, ![A, B, C]⟩) ![o₁, o₂, o₃] ![a, b, d] inb).toLoadRect.idx (ix3 x y z) = ix3 x' y' z' :=
  funext fun i => Fin.ext (by
    match i with
    | ⟨0, _⟩ => show o₁ + 1 * x.val = x'.val; omega
    | ⟨1, _⟩ => show o₂ + 1 * y.val = y'.val; omega
    | ⟨2, _⟩ => show o₃ + 1 * z.val = z'.val; omega)

/-- The combinations of codes `X` are in the scratch. -/
def Held (c : Dev nD) (g : Scr (F := Ideal) c) (X : Fin 2 → Fin 1024 → Fin 2560 → ℝ) : Prop :=
  ∀ s p k, (Memref.whole cc0_scratch0).view.read (Elt Ideal) g.1 (ix3 s p k) = Real.toEReal (comb X p k s.val)

/-- The seven stores of a first column block leave the combinations of its codes. -/
theorem filled (c : Dev nD) (M : Memref sig .tc .vmem S2x1024x2560 .i8) (h : M.IsWhole) (Z : Vec Ideal S2x1024x2560 .i8)
    (X : Fin 2 → Fin 1024 → Fin 2560 → ℝ) (hX : ∀ h r k, code (Z (ix3 h r k)) = X h r k) (s : Fin 7) (p : Fin 512) (k : Fin 2560) :
    (Memref.whole cc0_scratch0).view.read (Elt Ideal) ((Memref.whole cc0_scratch0).view.writes (Elt Ideal) (Memref.whole cc0_scratch0).view.junk
      (runA.sl.G0_7 c M (h.unread Z))) (ix3 s p k) = Real.toEReal (comb X p k s.val) := by
  apply seven_at (Memref.whole cc0_scratch0).view _ X
  · exact fun p k => (congrArg code (load_at M h Z _ _ _ (idx3 0 0 0 _ 0 p k 0 (up p) k rfl (Nat.zero_add _).symm (Nat.zero_add _).symm))).trans (hX _ _ _)
  · exact fun p k => (congrArg code (load_at M h Z _ _ _ (idx3 1 0 0 _ 0 p k 1 (up p) k rfl (Nat.zero_add _).symm (Nat.zero_add _).symm))).trans (hX _ _ _)
  · exact fun p k => (congrArg code (load_at M h Z _ _ _ (idx3 0 512 0 _ 0 p k 0 (dn p) k rfl rfl (Nat.zero_add _).symm))).trans (hX _ _ _)
  · exact fun p k => (congrArg code (load_at M h Z _ _ _ (idx3 1 512 0 _ 0 p k 1 (dn p) k rfl rfl (Nat.zero_add _).symm))).trans (hX _ _ _)

variable (c : Dev nD) (t : Fin cfg0.N) (Y : (w : Fin cfg0.W) → (cfg0.win w).block.Idx → Elt Ideal (cfg0.win w).elt) (g : Scr (F := Ideal) c)
  (X : Fin 2 → Fin 1024 → Fin 2560 → ℝ) (σ : Fin 1024 → EReal)

/-- A middle column block leaves its block of logits, -/
theorem outB (hc1 hc2) (hσ : ∀ (r : Fin 1024) (l : Fin 128), (Y 1 : Vec Ideal S1024x128 .f32) (ix2 r l) = σ r) (hg : Held c g X)
    (r : Fin 1024) (q : Fin 512) :
    (left c Y (atB c t Y g hc1 hc2).1 4 : Vec Ideal S1024x1x512 .f32) (ix3 r 0 q)
      = Real.toEReal (plain (X 0 r) (X 1 r) fun k => (Y 2 : Vec Ideal S512x2560 .i8) (ix2 q k)) * σ r * (Y 3 : Vec Ideal S1x1x512 .f32) (ix3 0 0 q) := by
  show (st0_4 t).view.read (Elt Ideal) (atB c t Y g hc1 hc2).1.1.1 (ix3 r 0 q) = _
  unfold atB runB
  dsimp only
  apply eight_at (st0_4 t).view _ X (fun q k => (Y 2 : Vec Ideal S512x2560 .i8) (ix2 q k)) σ (fun q => (Y 3 : Vec Ideal S1x1x512 .f32) (ix3 0 0 q))
  · exact fun q k => load_at (st0_2 t) _ (Y 2) _ _ _ (idx2 0 0 _ q k _ k (Nat.zero_add _).symm (Nat.zero_add _).symm)
  · exact fun q k => load_at (st0_2 t) _ (Y 2) _ _ _ (idx2 256 0 _ q k _ k rfl (Nat.zero_add _).symm)
  · exact fun p k => (congrArg (View.read (Elt Ideal) (Memref.whole cc0_scratch0).view g.1) (idx3 0 0 0 _ 0 p k 0 p k rfl (Nat.zero_add _).symm (Nat.zero_add _).symm)).trans (hg 0 p k)
  · exact fun p k => (congrArg (View.read (Elt Ideal) (Memref.whole cc0_scratch0).view g.1) (idx3 1 0 0 _ 0 p k 1 p k rfl (Nat.zero_add _).symm (Nat.zero_add _).symm)).trans (hg 1 p k)
  · exact fun p k => (congrArg (View.read (Elt Ideal) (Memref.whole cc0_scratch0).view g.1) (idx3 2 0 0 _ 0 p k 2 p k rfl (Nat.zero_add _).symm (Nat.zero_add _).symm)).trans (hg 2 p k)
  · exact fun p k => (congrArg (View.read (Elt Ideal) (Memref.whole cc0_scratch0).view g.1) (idx3 3 0 0 _ 0 p k 3 p k rfl (Nat.zero_add _).symm (Nat.zero_add _).symm)).trans (hg 3 p k)
  · exact fun p k => (congrArg (View.read (Elt Ideal) (Memref.whole cc0_scratch0).view g.1) (idx3 4 0 0 _ 0 p k 4 p k rfl (Nat.zero_add _).symm (Nat.zero_add _).symm)).trans (hg 4 p k)
  · exact fun p k => (congrArg (View.read (Elt Ideal) (Memref.whole cc0_scratch0).view g.1) (idx3 5 0 0 _ 0 p k 5 p k rfl (Nat.zero_add _).symm (Nat.zero_add _).symm)).trans (hg 5 p k)
  · exact fun p k => (congrArg (View.read (Elt Ideal) (Memref.whole cc0_scratch0).view g.1) (idx3 6 0 0 _ 0 p k 6 p k rfl (Nat.zero_add _).symm (Nat.zero_add _).symm)).trans (hg 6 p k)
  · exact fun p l => (load_at (st0_1 t) _ (Y 1) _ _ _ (idx2 0 0 _ p l (up p) l (Nat.zero_add _).symm (Nat.zero_add _).symm)).trans (hσ _ _)
  · exact fun p l => (load_at (st0_1 t) _ (Y 1) _ _ _ (idx2 512 0 _ p l (dn p) l rfl (Nat.zero_add _).symm)).trans (hσ _ _)
  · exact fun l => load_at (st0_3 t) _ (Y 3) _ _ _ (idx3 0 0 0 _ 0 0 l 0 0 _ rfl rfl rfl)
  · exact fun l => load_at (st0_3 t) _ (Y 3) _ _ _ (idx3 0 0 128 _ 0 0 l 0 0 _ rfl rfl rfl)
  · exact fun l => load_at (st0_3 t) _ (Y 3) _ _ _ (idx3 0 0 256 _ 0 0 l 0 0 _ rfl rfl rfl)
  · exact fun l => load_at (st0_3 t) _ (Y 3) _ _ _ (idx3 0 0 384 _ 0 0 l 0 0 _ rfl rfl rfl)

/-- and the scratch as it was. -/
theorem keptB (hc1 hc2) : (atB c t Y g hc1 hc2).1.2.1 = g.1 := by
  unfold atB runB
  rfl

/-- A last column block leaves its block of logits, -/
theorem outC (hc1 hc2) (hσ : ∀ (r : Fin 1024) (l : Fin 128), (Y 1 : Vec Ideal S1024x128 .f32) (ix2 r l) = σ r) (hg : Held c g X)
    (r : Fin 1024) (q : Fin 512) :
    (left c Y (atC c t Y g hc1 hc2).1 4 : Vec Ideal S1024x1x512 .f32) (ix3 r 0 q)
      = Real.toEReal (plain (X 0 r) (X 1 r) fun k => (Y 2 : Vec Ideal S512x2560 .i8) (ix2 q k)) * σ r * (Y 3 : Vec Ideal S1x1x512 .f32) (ix3 0 0 q) := by
  show (st0_4 t).view.read (Elt Ideal) (atC c t Y g hc1 hc2).1.1.1 (ix3 r 0 q) = _
  unfold atC runC
  dsimp only
  apply eight_at (st0_4 t).view _ X (fun q k => (Y 2 : Vec Ideal S512x2560 .i8) (ix2 q k)) σ (fun q => (Y 3 : Vec Ideal S1x1x512 .f32) (ix3 0 0 q))
  · exact fun q k => load_at (st0_2 t) _ (Y 2) _ _ _ (idx2 0 0 _ q k _ k (Nat.zero_add _).symm (Nat.zero_add _).symm)
  · exact fun q k => load_at (st0_2 t) _ (Y 2) _ _ _ (idx2 256 0 _ q k _ k rfl (Nat.zero_add _).symm)
  · exact fun p k => (congrArg (View.read (Elt Ideal) (Memref.whole cc0_scratch0).view g.1) (idx3 0 0 0 _ 0 p k 0 p k rfl (Nat.zero_add _).symm (Nat.zero_add _).symm)).trans (hg 0 p k)
  · exact fun p k => (congrArg (View.read (Elt Ideal) (Memref.whole cc0_scratch0).view g.1) (idx3 1 0 0 _ 0 p k 1 p k rfl (Nat.zero_add _).symm (Nat.zero_add _).symm)).trans (hg 1 p k)
  · exact fun p k => (congrArg (View.read (Elt Ideal) (Memref.whole cc0_scratch0).view g.1) (idx3 2 0 0 _ 0 p k 2 p k rfl (Nat.zero_add _).symm (Nat.zero_add _).symm)).trans (hg 2 p k)
  · exact fun p k => (congrArg (View.read (Elt Ideal) (Memref.whole cc0_scratch0).view g.1) (idx3 3 0 0 _ 0 p k 3 p k rfl (Nat.zero_add _).symm (Nat.zero_add _).symm)).trans (hg 3 p k)
  · exact fun p k => (congrArg (View.read (Elt Ideal) (Memref.whole cc0_scratch0).view g.1) (idx3 4 0 0 _ 0 p k 4 p k rfl (Nat.zero_add _).symm (Nat.zero_add _).symm)).trans (hg 4 p k)
  · exact fun p k => (congrArg (View.read (Elt Ideal) (Memref.whole cc0_scratch0).view g.1) (idx3 5 0 0 _ 0 p k 5 p k rfl (Nat.zero_add _).symm (Nat.zero_add _).symm)).trans (hg 5 p k)
  · exact fun p k => (congrArg (View.read (Elt Ideal) (Memref.whole cc0_scratch0).view g.1) (idx3 6 0 0 _ 0 p k 6 p k rfl (Nat.zero_add _).symm (Nat.zero_add _).symm)).trans (hg 6 p k)
  · exact fun p l => (load_at (st0_1 t) _ (Y 1) _ _ _ (idx2 0 0 _ p l (up p) l (Nat.zero_add _).symm (Nat.zero_add _).symm)).trans (hσ _ _)
  · exact fun p l => (load_at (st0_1 t) _ (Y 1) _ _ _ (idx2 512 0 _ p l (dn p) l rfl (Nat.zero_add _).symm)).trans (hσ _ _)
  · exact fun l => load_at (st0_3 t) _ (Y 3) _ _ _ (idx3 0 0 0 _ 0 0 l 0 0 _ rfl rfl rfl)
  · exact fun l => load_at (st0_3 t) _ (Y 3) _ _ _ (idx3 0 0 128 _ 0 0 l 0 0 _ rfl rfl rfl)
  · exact fun l => load_at (st0_3 t) _ (Y 3) _ _ _ (idx3 0 0 256 _ 0 0 l 0 0 _ rfl rfl rfl)
  · exact fun l => load_at (st0_3 t) _ (Y 3) _ _ _ (idx3 0 0 384 _ 0 0 l 0 0 _ rfl rfl rfl)

/-- and the scratch as it was. -/
theorem keptC (hc1 hc2) : (atC c t Y g hc1 hc2).1.2.1 = g.1 := by
  unfold atC runC
  rfl

/-- The scratch a first column block leaves. -/
theorem scrA (hc1 hc2) : (atA c t Y g hc1 hc2).1.2.1
    = (Memref.whole cc0_scratch0).view.writes (Elt Ideal) (Memref.whole cc0_scratch0).view.junk
      (runA.sl.G0_7 c (st0_0 t) ((hstage0_0 ((cfg0.slots t 0).cast nbuf0_0)).unread (Y 0))) := by
  unfold atA runA
  dsimp only

/-! A first column block reads back each combination it stored. -/

theorem slot0 (M : Memref sig .tc .vmem S2x1024x2560 .i8) (h : M.IsWhole) (Z : Vec Ideal S2x1024x2560 .i8)
    (hX : ∀ h r k, code (Z (ix3 h r k)) = X h r k) (p : Fin 512) (k : Fin 2560) :
    runA.sl.v32 c M (h.unread Z) (ix3 0 p k) = Real.toEReal (comb X p k 0) := by
  unfold runA.sl.v32 View.readCov
  refine Eq.trans ?_ (filled c M h Z X hX 0 p k)
  exact congrArg (View.read (Elt Ideal) (Memref.whole cc0_scratch0).view ((Memref.whole cc0_scratch0).view.writes (Elt Ideal) (Memref.whole cc0_scratch0).view.junk
      (runA.sl.G0_7 c M (h.unread Z)))) (idx3 0 0 0 _ 0 p k 0 p k rfl (Nat.zero_add _).symm (Nat.zero_add _).symm)

theorem slot1 (M : Memref sig .tc .vmem S2x1024x2560 .i8) (h : M.IsWhole) (Z : Vec Ideal S2x1024x2560 .i8)
    (hX : ∀ h r k, code (Z (ix3 h r k)) = X h r k) (p : Fin 512) (k : Fin 2560) :
    runA.sl.v35 c M (h.unread Z) (ix3 0 p k) = Real.toEReal (comb X p k 1) := by
  unfold runA.sl.v35 View.readCov
  refine Eq.trans ?_ (filled c M h Z X hX 1 p k)
  exact congrArg (View.read (Elt Ideal) (Memref.whole cc0_scratch0).view ((Memref.whole cc0_scratch0).view.writes (Elt Ideal) (Memref.whole cc0_scratch0).view.junk
      (runA.sl.G0_7 c M (h.unread Z)))) (idx3 1 0 0 _ 0 p k 1 p k rfl (Nat.zero_add _).symm (Nat.zero_add _).symm)

theorem slot2 (M : Memref sig .tc .vmem S2x1024x2560 .i8) (h : M.IsWhole) (Z : Vec Ideal S2x1024x2560 .i8)
    (hX : ∀ h r k, code (Z (ix3 h r k)) = X h r k) (p : Fin 512) (k : Fin 2560) :
    runA.sl.v39 c M (h.unread Z) (ix3 0 p k) = Real.toEReal (comb X p k 2) := by
  unfold runA.sl.v39 View.readCov
  refine Eq.trans ?_ (filled c M h Z X hX 2 p k)
  exact congrArg (View.read (Elt Ideal) (Memref.whole cc0_scratch0).view ((Memref.whole cc0_scratch0).view.writes (Elt Ideal) (Memref.whole cc0_scratch0).view.junk
      (runA.sl.G0_7 c M (h.unread Z)))) (idx3 2 0 0 _ 0 p k 2 p k rfl (Nat.zero_add _).symm (Nat.zero_add _).symm)

theorem slot3 (M : Memref sig .tc .vmem S2x1024x2560 .i8) (h : M.IsWhole) (Z : Vec Ideal S2x1024x2560 .i8)
    (hX : ∀ h r k, code (Z (ix3 h r k)) = X h r k) (p : Fin 512) (k : Fin 2560) :
    runA.sl.v43 c M (h.unread Z) (ix3 0 p k) = Real.toEReal (comb X p k 3) := by
  unfold runA.sl.v43 View.readCov
  refine Eq.trans ?_ (filled c M h Z X hX 3 p k)
  exact congrArg (View.read (Elt Ideal) (Memref.whole cc0_scratch0).view ((Memref.whole cc0_scratch0).view.writes (Elt Ideal) (Memref.whole cc0_scratch0).view.junk
      (runA.sl.G0_7 c M (h.unread Z)))) (idx3 3 0 0 _ 0 p k 3 p k rfl (Nat.zero_add _).symm (Nat.zero_add _).symm)

theorem slot4 (M : Memref sig .tc .vmem S2x1024x2560 .i8) (h : M.IsWhole) (Z : Vec Ideal S2x1024x2560 .i8)
    (hX : ∀ h r k, code (Z (ix3 h r k)) = X h r k) (p : Fin 512) (k : Fin 2560) :
    runA.sl.v46 c M (h.unread Z) (ix3 0 p k) = Real.toEReal (comb X p k 4) := by
  unfold runA.sl.v46 View.readCov
  refine Eq.trans ?_ (filled c M h Z X hX 4 p k)
  exact congrArg (View.read (Elt Ideal) (Memref.whole cc0_scratch0).view ((Memref.whole cc0_scratch0).view.writes (Elt Ideal) (Memref.whole cc0_scratch0).view.junk
      (runA.sl.G0_7 c M (h.unread Z)))) (idx3 4 0 0 _ 0 p k 4 p k rfl (Nat.zero_add _).symm (Nat.zero_add _).symm)

theorem slot5 (M : Memref sig .tc .vmem S2x1024x2560 .i8) (h : M.IsWhole) (Z : Vec Ideal S2x1024x2560 .i8)
    (hX : ∀ h r k, code (Z (ix3 h r k)) = X h r k) (p : Fin 512) (k : Fin 2560) :
    runA.sl.v50 c M (h.unread Z) (ix3 0 p k) = Real.toEReal (comb X p k 5) := by
  unfold runA.sl.v50 View.readCov
  refine Eq.trans ?_ (filled c M h Z X hX 5 p k)
  exact congrArg (View.read (Elt Ideal) (Memref.whole cc0_scratch0).view ((Memref.whole cc0_scratch0).view.writes (Elt Ideal) (Memref.whole cc0_scratch0).view.junk
      (runA.sl.G0_7 c M (h.unread Z)))) (idx3 5 0 0 _ 0 p k 5 p k rfl (Nat.zero_add _).symm (Nat.zero_add _).symm)

theorem slot6 (M : Memref sig .tc .vmem S2x1024x2560 .i8) (h : M.IsWhole) (Z : Vec Ideal S2x1024x2560 .i8)
    (hX : ∀ h r k, code (Z (ix3 h r k)) = X h r k) (p : Fin 512) (k : Fin 2560) :
    runA.sl.v54 c M (h.unread Z) (ix3 0 p k) = Real.toEReal (comb X p k 6) := by
  unfold runA.sl.v54 View.readCov
  refine Eq.trans ?_ (filled c M h Z X hX 6 p k)
  exact congrArg (View.read (Elt Ideal) (Memref.whole cc0_scratch0).view ((Memref.whole cc0_scratch0).view.writes (Elt Ideal) (Memref.whole cc0_scratch0).view.junk
      (runA.sl.G0_7 c M (h.unread Z)))) (idx3 6 0 0 _ 0 p k 6 p k rfl (Nat.zero_add _).symm (Nat.zero_add _).symm)

/-- A first column block leaves its block of logits, -/
theorem outA (hc1 hc2) (hσ : ∀ (r : Fin 1024) (l : Fin 128), (Y 1 : Vec Ideal S1024x128 .f32) (ix2 r l) = σ r) (hX : ∀ h r k, code ((Y 0 : Vec Ideal S2x1024x2560 .i8) (ix3 h r k)) = X h r k)
    (r : Fin 1024) (q : Fin 512) :
    (left c Y (atA c t Y g hc1 hc2).1 4 : Vec Ideal S1024x1x512 .f32) (ix3 r 0 q)
      = Real.toEReal (plain (X 0 r) (X 1 r) fun k => (Y 2 : Vec Ideal S512x2560 .i8) (ix2 q k)) * σ r * (Y 3 : Vec Ideal S1x1x512 .f32) (ix3 0 0 q) := by
  show (st0_4 t).view.read (Elt Ideal) (atA c t Y g hc1 hc2).1.1.1 (ix3 r 0 q) = _
  unfold atA runA
  dsimp only
  apply eight_at (st0_4 t).view _ X (fun q k => (Y 2 : Vec Ideal S512x2560 .i8) (ix2 q k)) σ (fun q => (Y 3 : Vec Ideal S1x1x512 .f32) (ix3 0 0 q))
  · exact fun q k => load_at (st0_2 t) _ (Y 2) _ _ _ (idx2 0 0 _ q k _ k (Nat.zero_add _).symm (Nat.zero_add _).symm)
  · exact fun q k => load_at (st0_2 t) _ (Y 2) _ _ _ (idx2 256 0 _ q k _ k rfl (Nat.zero_add _).symm)
  · exact slot0 c X (st0_0 t) (hstage0_0 ((cfg0.slots t 0).cast nbuf0_0)) (Y 0) hX
  · exact slot1 c X (st0_0 t) (hstage0_0 ((cfg0.slots t 0).cast nbuf0_0)) (Y 0) hX
  · exact slot2 c X (st0_0 t) (hstage0_0 ((cfg0.slots t 0).cast nbuf0_0)) (Y 0) hX
  · exact slot3 c X (st0_0 t) (hstage0_0 ((cfg0.slots t 0).cast nbuf0_0)) (Y 0) hX
  · exact slot4 c X (st0_0 t) (hstage0_0 ((cfg0.slots t 0).cast nbuf0_0)) (Y 0) hX
  · exact slot5 c X (st0_0 t) (hstage0_0 ((cfg0.slots t 0).cast nbuf0_0)) (Y 0) hX
  · exact slot6 c X (st0_0 t) (hstage0_0 ((cfg0.slots t 0).cast nbuf0_0)) (Y 0) hX
  · exact fun p l => (load_at (st0_1 t) _ (Y 1) _ _ _ (idx2 0 0 _ p l (up p) l (Nat.zero_add _).symm (Nat.zero_add _).symm)).trans (hσ _ _)
  · exact fun p l => (load_at (st0_1 t) _ (Y 1) _ _ _ (idx2 512 0 _ p l (dn p) l rfl (Nat.zero_add _).symm)).trans (hσ _ _)
  · exact fun l => load_at (st0_3 t) _ (Y 3) _ _ _ (idx3 0 0 0 _ 0 0 l 0 0 _ rfl rfl rfl)
  · exact fun l => load_at (st0_3 t) _ (Y 3) _ _ _ (idx3 0 0 128 _ 0 0 l 0 0 _ rfl rfl rfl)
  · exact fun l => load_at (st0_3 t) _ (Y 3) _ _ _ (idx3 0 0 256 _ 0 0 l 0 0 _ rfl rfl rfl)
  · exact fun l => load_at (st0_3 t) _ (Y 3) _ _ _ (idx3 0 0 384 _ 0 0 l 0 0 _ rfl rfl rfl)

/-- and the combinations of its codes in the scratch. -/
theorem heldA (hc1 hc2) (hX : ∀ h r k, code ((Y 0 : Vec Ideal S2x1024x2560 .i8) (ix3 h r k)) = X h r k) :
    Held c (atA c t Y g hc1 hc2).1.2 X := by
  unfold Held
  rw [scrA]
  exact filled c (st0_0 t) (hstage0_0 ((cfg0.slots t 0).cast nbuf0_0)) (Y 0) X hX

end Cert.Value

end
-- ==== Proof.Value.Lanes.lean ====
/-
  The two best of a row, lane by lane: folding a lane's columns keeps its
  greatest value, the column where it first stands, and the greatest of the
  others. Over the 128 lanes these give the row's greatest value, its first
  column, and the greatest value off that column.
-/
module

public import proofs.«01_k».proof.Proof.Value.Real

@[expose] public section

noncomputable section

namespace Cert.Value

open Idealize.ShloMosaic

/-- A lane's greatest value, the greatest of its others, and the greatest's column. -/
abbrev Best := EReal × EReal × BitVec 32

/-- One more column of a lane. -/
def step (s : Best) (col : BitVec 32) (v : EReal) : Best :=
  (max s.1 v, max s.2.1 (min s.1 v), if s.1 < v then col else s.2.2)

/-- A lane after `k` of its columns. -/
def state (f : ℕ → EReal) (l : ℕ) : ℕ → Best
  | 0 => (⊥, ⊥, 0#32)
  | k + 1 => step (state f l k) (BitVec.ofNat 32 (128 * k + l)) (f (128 * k + l))

/-- What a lane's state says of its columns. -/
def Says (f : ℕ → EReal) (l k : ℕ) (s : Best) : Prop :=
  (s.1 = ⊥ ∧ s.2.1 = ⊥ ∧ s.2.2 = 0#32 ∧ ∀ n < k, f (128 * n + l) = ⊥) ∨
  ∃ n < k, s.2.2 = BitVec.ofNat 32 (128 * n + l) ∧ f (128 * n + l) = s.1 ∧ ⊥ < s.1 ∧ (∀ n' < n, f (128 * n' + l) < s.1)
    ∧ (∀ n' < k, f (128 * n' + l) ≤ s.1) ∧ ∀ x, s.2.1 ≤ x ↔ ∀ n' < k, n' ≠ n → f (128 * n' + l) ≤ x

theorem state_says (f : ℕ → EReal) (l : ℕ) : ∀ k, Says f l k (state f l k)
  | 0 => .inl ⟨rfl, rfl, rfl, fun n h => absurd h (Nat.not_lt_zero n)⟩
  | k + 1 => by
    have ih := state_says f l k
    show Says f l (k + 1) (step (state f l k) (BitVec.ofNat 32 (128 * k + l)) (f (128 * k + l)))
    generalize state f l k = s at ih
    obtain ⟨b, c, i⟩ := s
    unfold Says step at *
    dsimp only at ih ⊢
    by_cases h : b < f (128 * k + l)
    · right
      have hb : ∀ n < k, f (128 * n + l) ≤ b := by
        rcases ih with ⟨e, _, _, h0⟩ | ⟨n, _, _, _, _, _, h0, _⟩
        · exact fun n hn => (h0 n hn).trans_le bot_le
        · exact h0
      refine ⟨k, Nat.lt_succ_self k, if_pos h, (max_eq_right h.le).symm, lt_of_lt_of_le (lt_of_le_of_lt bot_le h) (le_max_right _ _),
        fun n hn => lt_of_le_of_lt (hb n hn) (lt_of_lt_of_le h (le_max_right _ _)), fun n hn => ?_, fun x => ?_⟩
      · rcases Nat.lt_succ_iff_lt_or_eq.mp hn with hn | rfl
        · exact (hb n hn).trans (le_max_left _ _)
        · exact le_max_right _ _
      · rw [min_eq_left h.le, max_le_iff]
        constructor
        · rintro ⟨_, hx⟩ n hn ne
          exact (hb n (by omega)).trans hx
        · intro hx
          have hx' : ∀ n < k, f (128 * n + l) ≤ x := fun n hn => hx n (by omega) (by omega)
          rcases ih with ⟨e, e', _, _⟩ | ⟨n, hn, _, e, _, _, _, h2⟩
          · rw [e, e']; exact ⟨bot_le, bot_le⟩
          · exact ⟨(h2 x).mpr fun n' hn' _ => hx' n' hn', e ▸ hx' n hn⟩
    · have hle : f (128 * k + l) ≤ b := not_lt.mp h
      rw [if_neg h, max_eq_left hle, min_eq_right hle]
      rcases ih with ⟨e, e', e'', h0⟩ | ⟨n, hn, hi, e, hp, hlt, hall, h2⟩
      · left
        have ek : f (128 * k + l) = ⊥ := le_bot_iff.mp (e ▸ hle)
        refine ⟨e, by rw [e', ek, max_self], e'', fun n hn => ?_⟩
        rcases Nat.lt_succ_iff_lt_or_eq.mp hn with hn | rfl
        · exact h0 n hn
        · exact ek
      · right
        refine ⟨n, by omega, hi, e, hp, hlt, fun n' hn' => ?_, fun x => ?_⟩
        · rcases Nat.lt_succ_iff_lt_or_eq.mp hn' with hn' | rfl
          · exact hall n' hn'
          · exact hle
        · rw [max_le_iff, h2 x]
          constructor
          · rintro ⟨ha, hk⟩ n' hn' ne
            rcases Nat.lt_succ_iff_lt_or_eq.mp hn' with hn' | rfl
            · exact ha n' hn' ne
            · exact hk
          · exact fun ha => ⟨fun n' hn' ne => ha n' (by omega) ne, ha k (by omega) (by omega)⟩

theorem says_le (f : ℕ → EReal) (l k : ℕ) (s : Best) (h : Says f l k s) (n : ℕ) (hn : n < k) : f (128 * n + l) ≤ s.1 := by
  rcases h with ⟨_, _, _, h0⟩ | ⟨_, _, _, _, _, _, h0, _⟩
  · exact (h0 n hn).trans_le bot_le
  · exact h0 n hn

/-! ## Greatest and least of a list -/

theorem fold_max_le {ι : Type} [Fintype ι] (g : ι → EReal) (x : EReal) : Finset.univ.fold max ⊥ g ≤ x ↔ ∀ i, g i ≤ x := by
  rw [Finset.fold_max_le]
  exact ⟨fun h i => h.2 i (Finset.mem_univ i), fun h => ⟨bot_le, fun i _ => h i⟩⟩

theorem le_fold_min {ι : Type} (t : Finset ι) (F : ι → BitVec 32) (x : ℤ) (hx : x ≤ (2147483647#32).toInt) (h : ∀ i ∈ t, x ≤ (F i).toInt) :
    x ≤ (t.fold (IKind.minsi.op) 2147483647#32 F).toInt := by
  classical
  induction t using Finset.induction_on with
  | empty => exact hx
  | insert a t ha ih =>
    rw [Finset.fold_insert ha]
    have h1 := h a (Finset.mem_insert_self a t)
    have h2 := ih fun i hi => h i (Finset.mem_insert_of_mem hi)
    show x ≤ (IntOp.minsi _ _).toInt
    unfold IntOp.minsi
    split
    · exact h1
    · exact h2

theorem fold_min_le {ι : Type} (t : Finset ι) (F : ι → BitVec 32) (i : ι) (hi : i ∈ t) :
    (t.fold (IKind.minsi.op) 2147483647#32 F).toInt ≤ (F i).toInt := by
  classical
  induction t using Finset.induction_on with
  | empty => exact absurd hi (Finset.notMem_empty i)
  | insert a t ha ih =>
    rw [Finset.fold_insert ha]
    show (IntOp.minsi _ _).toInt ≤ _
    unfold IntOp.minsi
    rcases Finset.mem_insert.mp hi with rfl | hi
    · split
      · exact le_refl _
      · next h => rw [BitVec.slt_iff_toInt_lt] at h; omega
    · have := ih hi
      split
      · next h => rw [BitVec.slt_iff_toInt_lt] at h; omega
      · exact this

/-- The least of a list, found. -/
theorem fold_min_eq {ι : Type} [Fintype ι] (F : ι → BitVec 32) (y : BitVec 32) (i : ι) (hi : F i = y) (h : ∀ i, y.toInt ≤ (F i).toInt) :
    Finset.univ.fold (IKind.minsi.op) 2147483647#32 F = y := by
  refine BitVec.eq_of_toInt_eq (le_antisymm (hi ▸ fold_min_le _ F i (Finset.mem_univ i)) (le_fold_min _ F _ ?_ fun i _ => h i))
  have := BitVec.toInt_lt (x := y)
  show y.toInt ≤ 2147483647
  omega

/-! ## A row -/

/-- A row's values by column number, below everything off the row. -/
def rowf (g : Fin 32000 → EReal) (n : ℕ) : EReal := if h : n < 32000 then g ⟨n, h⟩ else ⊥

theorem rowf_of (g : Fin 32000 → EReal) (q : Fin 32000) (n : ℕ) (h : n = q.val) : rowf g n = g q := by
  subst h
  unfold rowf
  rw [dif_pos q.isLt]

theorem of_rowf (g : Fin 32000 → EReal) (n : ℕ) (h : ⊥ < rowf g n) : ∃ q : Fin 32000, n = q.val ∧ g q = rowf g n := by
  by_cases hn : n < 32000
  · exact ⟨⟨n, hn⟩, rfl, (rowf_of g ⟨n, hn⟩ n rfl).symm⟩
  · unfold rowf at h
    rw [dif_neg hn] at h
    exact absurd h (lt_irrefl _)

/-- The greatest of a row, -/
def top (g : Fin 32000 → EReal) : EReal := Finset.univ.fold max ⊥ g
/-- the first column where it stands, -/
def tok (g : Fin 32000 → EReal) : BitVec 32 :=
  Finset.univ.fold (IKind.minsi.op) 2147483647#32 fun q => if g q = top g then BitVec.ofNat 32 q.val else 2147483647#32
/-- and the greatest off that column. -/
def runner (g : Fin 32000 → EReal) : EReal :=
  Finset.univ.fold max ⊥ fun q => if BitVec.ofNat 32 q.val = tok g then ⊥ else g q

/-- The same three from the lanes. -/
def topL (s : Fin 128 → Best) : EReal := Finset.univ.fold max ⊥ fun l => (s l).1
def candL (s : Fin 128 → Best) (l : Fin 128) : BitVec 32 := if (s l).1 = topL s then (s l).2.2 else 2147483647#32
def tokL (s : Fin 128 → Best) : BitVec 32 := Finset.univ.fold (IKind.minsi.op) 2147483647#32 (candL s)
def runnerL (s : Fin 128 → Best) : EReal := Finset.univ.fold max ⊥ fun l => if candL s l = tokL s then (s l).2.1 else (s l).1

/-- The lanes of a row. -/
def lanes (g : Fin 32000 → EReal) (l : Fin 128) : Best := state (rowf g) l.val 252

variable (g : Fin 32000 → EReal)

theorem le_top (q : Fin 32000) : g q ≤ top g := (fold_max_le g _).mp (le_refl _) q

theorem lane_says (l : Fin 128) : Says (rowf g) l.val 252 (lanes g l) := state_says _ _ _

/-- A column in its lane. -/
theorem le_lane (q : Fin 32000) (l : Fin 128) (h : q.val % 128 = l.val) : g q ≤ (lanes g l).1 := by
  have := says_le _ _ _ _ (lane_says g l) (q.val / 128) (by have := q.isLt; omega)
  rwa [rowf_of g q _ (by omega)] at this

theorem topL_eq : topL (lanes g) = top g := by
  refine eq_of_forall_ge_iff fun x => ?_
  unfold topL top
  rw [fold_max_le, fold_max_le]
  constructor
  · exact fun h q => (le_lane g q ⟨q.val % 128, Nat.mod_lt _ (by decide)⟩ rfl).trans (h _)
  · intro h l
    rcases lane_says g l with ⟨e, _, _, _⟩ | ⟨n, _, _, e, hp, _, _, _⟩
    · rw [e]; exact bot_le
    · obtain ⟨q, _, hq⟩ := of_rowf g _ (e ▸ hp)
      rw [← e, ← hq]
      exact h q

theorem lane_le (l : Fin 128) : (lanes g l).1 ≤ top g := by
  rw [← topL_eq]
  exact (fold_max_le _ _).mp (le_refl (topL (lanes g))) l

theorem ofNat_toInt (n : ℕ) (h : n < 40000) : (BitVec.ofNat 32 n).toInt = n := by
  rw [BitVec.toInt_eq_toNat_cond, BitVec.toNat_ofNat, Nat.mod_eq_of_lt (by omega)]
  rw [if_pos (by omega)]

theorem ofNat_inj (n n' : ℕ) (h : n < 40000) (h' : n' < 40000) (e : BitVec.ofNat 32 n = BitVec.ofNat 32 n') : n = n' := by
  have := congrArg BitVec.toInt e
  rw [ofNat_toInt n h, ofNat_toInt n' h'] at this
  exact_mod_cast this

/-- The first column of a row's greatest value. -/
theorem first : ∃ q₀ : Fin 32000, g q₀ = top g ∧ ∀ q, g q = top g → q₀.val ≤ q.val := by
  classical
  have hex : ∃ n, ∃ h : n < 32000, g ⟨n, h⟩ = top g := by
    by_contra hn
    have hlt : ∀ q, g q < top g := fun q => lt_of_le_of_ne (le_top g q) fun e => hn ⟨q.val, q.isLt, e⟩
    obtain ⟨q, _, hq⟩ := Finset.exists_max_image (Finset.univ : Finset (Fin 32000)) g ⟨0, Finset.mem_univ _⟩
    exact absurd (hlt q) (not_lt.mpr ((fold_max_le g _).mpr fun i => hq i (Finset.mem_univ i)))
  obtain ⟨h, e⟩ := Nat.find_spec hex
  exact ⟨⟨Nat.find hex, h⟩, e, fun q hq => Nat.find_min' hex ⟨q.isLt, hq⟩⟩

theorem tok_eq (q₀ : Fin 32000) (h₀ : g q₀ = top g) (hmin : ∀ q, g q = top g → q₀.val ≤ q.val) : tok g = BitVec.ofNat 32 q₀.val := by
  have b0 := q₀.isLt
  refine fold_min_eq _ _ q₀ (if_pos h₀) fun q => ?_
  rw [ofNat_toInt _ (by omega)]
  have bq := q.isLt
  by_cases h : g q = top g
  · rw [if_pos h, ofNat_toInt _ (by omega)]
    exact_mod_cast hmin q h
  · rw [if_neg h]
    show (q₀.val : ℤ) ≤ 2147483647
    omega

/-- A lane that reaches a greatest value above the bottom: its column. -/
theorem lane_top (hT : ⊥ < top g) (l : Fin 128) (h : (lanes g l).1 = top g) : ∃ (n : ℕ) (q : Fin 32000), n < 252 ∧ q.val = 128 * n + l.val
    ∧ g q = top g ∧ (lanes g l).2.2 = BitVec.ofNat 32 q.val ∧ (∀ n' < n, rowf g (128 * n' + l.val) < top g)
    ∧ ∀ x, (lanes g l).2.1 ≤ x ↔ ∀ n' < 252, n' ≠ n → rowf g (128 * n' + l.val) ≤ x := by
  rcases lane_says g l with ⟨e, _, _, _⟩ | ⟨n, hn, hi, e, hp, hlt, _, h2⟩
  · rw [← h, e] at hT; exact absurd hT (lt_irrefl _)
  · obtain ⟨q, hq, eq⟩ := of_rowf g _ (e ▸ hp)
    exact ⟨n, q, hn, hq.symm, eq.trans (e.trans h), hq ▸ hi, h ▸ hlt, h2⟩

theorem lane_bot (hT : top g = ⊥) (l : Fin 128) : (lanes g l).1 = ⊥ ∧ (lanes g l).2.1 = ⊥ ∧ (lanes g l).2.2 = 0#32 := by
  have hb : (lanes g l).1 = ⊥ := le_bot_iff.mp (hT ▸ lane_le g l)
  rcases lane_says g l with ⟨_, e, e', _⟩ | ⟨_, _, _, _, hp, _⟩
  · exact ⟨hb, e, e'⟩
  · rw [hb] at hp; exact absurd hp (lt_irrefl _)

/-- The lane of the first column, and the others. -/
theorem cands (hT : ⊥ < top g) (q₀ : Fin 32000) (h₀ : g q₀ = top g) (hmin : ∀ q, g q = top g → q₀.val ≤ q.val) (l : Fin 128) :
    (l.val = q₀.val % 128 → candL (lanes g) l = BitVec.ofNat 32 q₀.val ∧ ∀ x, (lanes g l).2.1 ≤ x ↔ ∀ n' < 252, n' ≠ q₀.val / 128 → rowf g (128 * n' + l.val) ≤ x)
    ∧ (l.val ≠ q₀.val % 128 → candL (lanes g) l ≠ BitVec.ofNat 32 q₀.val) ∧ (q₀.val : ℤ) ≤ (candL (lanes g) l).toInt := by
  have b0 := q₀.isLt
  unfold candL
  rw [topL_eq]
  by_cases h : (lanes g l).1 = top g
  · rw [if_pos h]
    obtain ⟨n, q, hn, hq, eq, ei, hlt, h2⟩ := lane_top g hT l h
    have bq := q.isLt
    have hle := hmin q eq
    have bl := l.isLt
    rw [ei]
    refine ⟨fun hl => ?_, fun hl e => ?_, ?_⟩
    · have hn0 : n = q₀.val / 128 := by
        by_contra hne
        have h1 := hlt (q₀.val / 128) (by omega)
        rw [rowf_of g q₀ _ (by omega), h₀] at h1
        exact lt_irrefl _ h1
      have hqq : q.val = q₀.val := by omega
      rw [hqq, ← hn0]
      exact ⟨rfl, h2⟩
    · have := ofNat_inj _ _ (by omega) (by omega) e
      omega
    · rw [ofNat_toInt _ (by omega)]
      exact_mod_cast hle
  · rw [if_neg h]
    refine ⟨fun hl => absurd (le_antisymm (lane_le g l) (h₀ ▸ le_lane g q₀ l hl.symm)) h, fun _ e => ?_, ?_⟩
    · have := congrArg BitVec.toInt e
      have e1 : (2147483647 : ℤ) = (BitVec.ofNat 32 q₀.val).toInt := this
      rw [ofNat_toInt q₀.val (by omega)] at e1
      omega
    · show (q₀.val : ℤ) ≤ 2147483647
      omega

theorem tokL_eq : tokL (lanes g) = tok g := by
  obtain ⟨q₀, h₀, hmin⟩ := first g
  have b0 := q₀.isLt
  rw [tok_eq g q₀ h₀ hmin]
  rcases (bot_le (a := top g)).eq_or_lt with hT | hT
  · have hz : q₀.val = 0 := Nat.le_zero.mp (hmin 0 (le_bot_iff.mp (hT ▸ le_top g 0) |>.trans hT))
    have hc : ∀ l, candL (lanes g) l = 0#32 := fun l => by
      obtain ⟨e, _, e'⟩ := lane_bot g hT.symm l
      unfold candL
      rw [topL_eq, e, if_pos hT, e']
    rw [hz]
    exact fold_min_eq _ _ 0 (hc 0) fun l => (congrArg BitVec.toInt (hc l)).symm.le
  · refine fold_min_eq _ _ ⟨q₀.val % 128, Nat.mod_lt _ (by decide)⟩ ((cands g hT q₀ h₀ hmin _).1 rfl).1 fun l => ?_
    rw [ofNat_toInt _ (by omega)]
    exact (cands g hT q₀ h₀ hmin l).2.2

theorem runnerL_eq : runnerL (lanes g) = runner g := by
  obtain ⟨q₀, h₀, hmin⟩ := first g
  have b0 := q₀.isLt
  have ht := tok_eq g q₀ h₀ hmin
  unfold runnerL runner
  rw [tokL_eq, ht]
  refine eq_of_forall_ge_iff fun x => ?_
  rw [fold_max_le, fold_max_le]
  rcases (bot_le (a := top g)).eq_or_lt with hT | hT
  · refine iff_of_true (fun l => ?_) fun q => ?_
    · obtain ⟨e, e', _⟩ := lane_bot g hT.symm l
      rw [e, e', ite_self]
      exact bot_le
    · split
      · exact bot_le
      · exact ((le_top g q).trans_eq hT.symm).trans bot_le
  constructor
  · intro h q
    have bq := q.isLt
    by_cases e : BitVec.ofNat 32 q.val = BitVec.ofNat 32 q₀.val
    · rw [if_pos e]; exact bot_le
    · rw [if_neg e]
      have hne : q.val ≠ q₀.val := fun h => e (congrArg _ h)
      have hl := h ⟨q.val % 128, Nat.mod_lt _ (by decide)⟩
      have hc := cands g hT q₀ h₀ hmin ⟨q.val % 128, Nat.mod_lt _ (by decide)⟩
      by_cases hm : q.val % 128 = q₀.val % 128
      · rw [if_pos (hc.1 hm).1] at hl
        have := ((hc.1 hm).2 x).mp hl (q.val / 128) (by omega) (by omega)
        rwa [rowf_of g q _ (by show 128 * (q.val / 128) + q.val % 128 = q.val; omega)] at this
      · rw [if_neg (hc.2.1 hm)] at hl
        exact (le_lane g q _ rfl).trans hl
  · intro h l
    have hx : ∀ n, 128 * n + l.val ≠ q₀.val → rowf g (128 * n + l.val) ≤ x := fun n hn => by
      rcases (bot_le (a := rowf g (128 * n + l.val))).eq_or_lt with e | e
      · rw [← e]; exact bot_le
      · obtain ⟨q, hq, eq⟩ := of_rowf g _ e
        have bq := q.isLt
        have := h q
        rw [if_neg fun e' => hn (hq.trans (ofNat_inj _ _ (by omega) (by omega) e'))] at this
        exact eq ▸ this
    have hc := cands g hT q₀ h₀ hmin l
    have bl := l.isLt
    by_cases hm : l.val = q₀.val % 128
    · rw [if_pos (hc.1 hm).1]
      exact ((hc.1 hm).2 x).mpr fun n _ hn => hx n (by omega)
    · rw [if_neg (hc.2.1 hm)]
      rcases lane_says g l with ⟨e, _⟩ | ⟨n, _, _, e, _⟩
      · rw [e]; exact bot_le
      · rw [← e]
        exact hx n (by omega)

end Cert.Value

end
-- ==== Proof.Value.Step.lean ====
/-
  The two best of a lane, as the head call's payloads carry them through a
  block's four column groups.
-/
module

public import proofs.«01_k».proof.Proof.Value.Pieces
public import proofs.«01_k».proof.Proof.Value.Lanes

@[expose] public section

set_option maxRecDepth 16384

noncomputable section

namespace Cert.Value

open Idealize.ShloMosaic
open Cert.KernelIdeal Cert.KernelIdeal.Gen

/-- A value off the array's columns counts as the bottom. -/
def masked (col : BitVec 32) (z : EReal) : EReal :=
  Scalar.select (Scalar.cmpi .slt col 32000#32) z (Ideal.ofBits .f32 0xFF800000#32)

theorem bits_bot : Ideal.ofBits .f32 0xFF800000#32 = (⊥ : EReal) := rfl

theorem masked_of (n : ℕ) (h : n < 40000) (z : EReal) : masked (BitVec.ofNat 32 n) z = if n < 32000 then z else ⊥ := by
  have e : (BitVec.ofNat 32 n).slt 32000#32 = decide (n < 32000) := by
    rw [BitVec.slt_eq_decide, ofNat_toInt n h]
    exact decide_eq_decide.mpr (by show (n : ℤ) < 32000 ↔ _; omega)
  unfold masked
  show (if BitVec.ofBool ((BitVec.ofNat 32 n).slt 32000#32) = 1 then z else Ideal.ofBits .f32 0xFF800000#32) = _
  rw [e, bits_bot]
  by_cases hn : n < 32000
  · rw [if_pos hn, decide_eq_true hn]; rfl
  · rw [if_neg hn, decide_eq_false hn]; rfl

/-- The choice of a column by a comparison of values. -/
theorem pick (b v : EReal) (x y : BitVec 32) : Scalar.select (BitVec.ofBool (decide (b < v))) x y = if b < v then x else y := by
  by_cases h : b < v
  · rw [if_pos h, decide_eq_true h]; rfl
  · rw [if_neg h, decide_eq_false h]; rfl

theorem sel (v b : FVec Ideal S512x128 .f32) (c x : IVec S512x128 32) (i : S512x128.Idx) :
    select (cmpf .ogt v b) c x i = if (b i : EReal) < v i then c i else x i := pick _ _ _ _

theorem pick_congr {b v b' v' : EReal} {c x c' x' : BitVec 32} (hb : b = b') (hv : v = v') (hc : c = c') (hx : x = x') :
    (if b < v then c else x) = if b' < v' then c' else x' := by
  rw [hb, hv, hc, hx]

theorem step_index (s : Best) (col : BitVec 32) (v : EReal) : (step s col v).2.2 = if s.1 < v then col else s.2.2 := rfl

/-- A column's number from its block, its group and its lane. -/
theorem column (j o l : ℕ) : BitVec.ofNat 32 l + (BitVec.ofNat 32 j * 512#32 + BitVec.ofNat 32 o) = BitVec.ofNat 32 (512 * j + o + l) := by
  rw [show (512#32 : BitVec 32) = BitVec.ofNat 32 512 from rfl, ← BitVec.ofNat_mul, ← BitVec.ofNat_add, ← BitVec.ofNat_add]
  congr 1
  omega

/-- Four more columns of a lane. -/
theorem four (f : ℕ → EReal) (l j : ℕ) (s : Best) (hs : s = state f l (4 * j)) (c0 c1 c2 c3 : BitVec 32) (v0 v1 v2 v3 : EReal)
    (h0 : c0 = BitVec.ofNat 32 (512 * j + 0 + l)) (h1 : c1 = BitVec.ofNat 32 (512 * j + 128 + l))
    (h2 : c2 = BitVec.ofNat 32 (512 * j + 256 + l)) (h3 : c3 = BitVec.ofNat 32 (512 * j + 384 + l))
    (e0 : v0 = f (512 * j + 0 + l)) (e1 : v1 = f (512 * j + 128 + l)) (e2 : v2 = f (512 * j + 256 + l)) (e3 : v3 = f (512 * j + 384 + l)) :
    step (step (step (step s c0 v0) c1 v1) c2 v2) c3 v3 = state f l (4 * (j + 1)) := by
  have q0 : 512 * j + 0 + l = 128 * (4 * j) + l := by omega
  have q1 : 512 * j + 128 + l = 128 * (4 * j + 1) + l := by omega
  have q2 : 512 * j + 256 + l = 128 * (4 * j + 2) + l := by omega
  have q3 : 512 * j + 384 + l = 128 * (4 * j + 3) + l := by omega
  rw [h0, h1, h2, h3, e0, e1, e2, e3, hs, q0, q1, q2, q3]
  rfl

section
variable (a : BitVec 32) (io : IVec S512x128 32) (C0 C1 : FVec Ideal S512x256 .f32) (R : FVec Ideal S512x128 .f32) (Rl b s : Vec Ideal S512x128 .f32)
  (x : Vec Ideal S512x128 .i32) (u0 u1 u2 u3 : Vec Ideal S1x1x128 .f32) (i : S512x128.Idx)

/-- The upper half's best, -/
def upBest : FVec Ideal S512x128 .f32 :=
  k0_pay60 (F := Ideal) a io (k0_pay55 a C1 io R (k0_pay43 a C0 io R b u0) (k0_pay44 C0 R u1) (Scalar.muli a 512#32) 128#32 u2) (k0_pay56 C1 R u3)
/-- second, -/
def upSecond : FVec Ideal S512x128 .f32 :=
  k0_pay61 (F := Ideal) a io (k0_pay53 a C1 io R (k0_pay41 a C0 io R b s u0) (k0_pay43 a C0 io R b u0) (k0_pay44 C0 R u1) (Scalar.muli a 512#32) 128#32 u2)
    (k0_pay55 a C1 io R (k0_pay43 a C0 io R b u0) (k0_pay44 C0 R u1) (Scalar.muli a 512#32) 128#32 u2) (k0_pay56 C1 R u3)
/-- and best's column. -/
def upIndex : IVec S512x128 32 :=
  k0_pay62 (F := Ideal) a io (k0_pay54 a C1 io R (k0_pay42 a C0 io R b x u0) (k0_pay43 a C0 io R b u0) (k0_pay44 C0 R u1) (Scalar.muli a 512#32) 128#32 u2)
    (k0_pay55 a C1 io R (k0_pay43 a C0 io R b u0) (k0_pay44 C0 R u1) (Scalar.muli a 512#32) 128#32 u2) (k0_pay56 C1 R u3)

/-- The lower half's best, -/
def loBest : FVec Ideal S512x128 .f32 :=
  k0_pay1 (F := Ideal) (k0_pay81 a C1 io (k0_pay63 Rl) (k0_pay75 a C0 io (k0_pay63 Rl) b (k0_pay64 C0 Rl u0) u1) u2) (k0_pay85 a C1 io (k0_pay63 Rl) u3)
/-- second, -/
def loSecond : FVec Ideal S512x128 .f32 :=
  k0_pay2 (F := Ideal) (k0_pay86 a C1 io (k0_pay63 Rl) (k0_pay73 a C0 io (k0_pay63 Rl) b s (k0_pay64 C0 Rl u0) u1)
    (k0_pay75 a C0 io (k0_pay63 Rl) b (k0_pay64 C0 Rl u0) u1) u2 u3)
/-- and best's column. -/
def loIndex : IVec S512x128 32 :=
  k0_pay3 (F := Ideal) (k0_pay80 a C1 io (k0_pay63 Rl) (k0_pay74 a C0 io (k0_pay63 Rl) b x (k0_pay64 C0 Rl u0) u1)
      (k0_pay75 a C0 io (k0_pay63 Rl) b (k0_pay64 C0 Rl u0) u1) u2)
    (k0_pay81 a C1 io (k0_pay63 Rl) (k0_pay75 a C0 io (k0_pay63 Rl) b (k0_pay64 C0 Rl u0) u1) u2) (k0_pay84 a io) (k0_pay85 a C1 io (k0_pay63 Rl) u3)

/-- The column group's number at an index. -/
def colOf (o : BitVec 32) : BitVec 32 := io i + (a * 512#32 + o)

theorem up_step : ((upBest a io C0 C1 R b u0 u1 u2 u3 i, upSecond a io C0 C1 R b s u0 u1 u2 u3 i, upIndex a io C0 C1 R b x u0 u1 u2 u3 i) : Best)
    = step (step (step (step (b i, s i, x i) (colOf a io i 0#32) (masked (colOf a io i 0#32) (k0_pay37 (F := Ideal) C0 R u0 i)))
      (colOf a io i 128#32) (masked (colOf a io i 128#32) (k0_pay44 (F := Ideal) C0 R u1 i)))
      (colOf a io i 256#32) (masked (colOf a io i 256#32) (k0_pay49 (F := Ideal) C1 R u2 i)))
      (colOf a io i 384#32) (masked (colOf a io i 384#32) (k0_pay56 (F := Ideal) C1 R u3 i)) := by
  refine Prod.ext ?_ (Prod.ext ?_ ?_)
  · unfold upBest k0_pay60
    dsimp only
    rw [cast_self]
    rfl
  · unfold upSecond k0_pay61
    dsimp only
    rw [cast_self]
    rfl
  · unfold upIndex k0_pay62
    dsimp only
    rw [cast_self]
    unfold k0_pay54 k0_pay42
    dsimp only
    rw [sel, sel, sel, sel]
    rw [step_index, step_index, step_index, step_index]
    refine pick_congr ?_ ?_ ?_ (pick_congr ?_ ?_ ?_ (pick_congr ?_ ?_ ?_ (pick_congr ?_ ?_ ?_ ?_)))
    · rfl
    · rfl
    · rfl
    · rfl
    · rfl
    · rfl
    · rfl
    · rfl
    · rfl
    · rfl
    · rfl
    · rfl
    · rfl

theorem lo_step : ((loBest a io C0 C1 Rl b u0 u1 u2 u3 i, loSecond a io C0 C1 Rl b s u0 u1 u2 u3 i, loIndex a io C0 C1 Rl b x u0 u1 u2 u3 i) : Best)
    = step (step (step (step (b i, s i, x i) (colOf a io i 0#32) (masked (colOf a io i 0#32) (k0_pay64 (F := Ideal) C0 Rl u0 i)))
      (colOf a io i 128#32) (masked (colOf a io i 128#32) (k0_pay69 (F := Ideal) C0 (k0_pay63 Rl) u1 i)))
      (colOf a io i 256#32) (masked (colOf a io i 256#32) (k0_pay76 (F := Ideal) C1 (k0_pay63 Rl) u2 i)))
      (colOf a io i 384#32) (masked (colOf a io i 384#32) (k0_pay82 (F := Ideal) C1 (k0_pay63 Rl) u3 i)) := by
  refine Prod.ext ?_ (Prod.ext ?_ ?_)
  · unfold loBest k0_pay1
    dsimp only
    rw [cast_self]
    rfl
  · unfold loSecond k0_pay2 k0_pay86
    dsimp only
    rw [cast_self]
    rfl
  · unfold loIndex k0_pay3
    dsimp only
    rw [cast_self]
    unfold k0_pay80 k0_pay74
    dsimp only
    rw [sel, sel, sel, sel]
    rw [step_index, step_index, step_index, step_index]
    refine pick_congr ?_ ?_ ?_ (pick_congr ?_ ?_ ?_ (pick_congr ?_ ?_ ?_ (pick_congr ?_ ?_ ?_ ?_)))
    · rfl
    · rfl
    · rfl
    · rfl
    · rfl
    · rfl
    · rfl
    · rfl
    · rfl
    · rfl
    · rfl
    · rfl
    · rfl

end

end Cert.Value

end
-- ==== Proof.Value.Halves.lean ====
/-
  Both halves of a block's rows: their lanes' two best after the block's four
  column groups, from what they were before.
-/
module

public import proofs.«01_k».proof.Proof.Value.Step

@[expose] public section

set_option maxRecDepth 16384

noncomputable section

namespace Cert.Value

open Idealize.ShloMosaic
open Cert.KernelIdeal Cert.KernelIdeal.Gen

/-- A quarter's columns from `o`, scaled by the row and by the column. -/
theorem part_at (o : ℕ) (C : FVec Ideal S512x256 .f32) (R : Vec Ideal S512x128 .f32) (u : Vec Ideal S1x1x128 .f32)
    (h : S512x256.Slices ![0, o] S512x128) (p : Fin 512) (l : Fin 128) (l' : Fin 256) (hl : l'.val = o + l.val) :
    (mulf (mulf (extractStridedSlice S512x128 ![0, o] C h) (shapeCast S512x128 R shapeCasts_S512x128_S512x128))
        (broadcastTo S512x128 (shapeCast S1x128 u shapeCasts_S1x1x128_S1x128) broadcasts_S1x128_S512x128) : FVec Ideal S512x128 .f32) (ix2 p l)
      = C (ix2 p l') * R (ix2 p l) * u (ix3 0 0 l) := by
  rw [cast_self R]
  refine congrArg₂ (· * ·) (congrArg₂ (· * ·) (slice_cols (M := 512) (N := 256) (L := 128) o C h p l l' hl) rfl) ?_
  exact (repeat_row (M := 512) (N := 128) (by decide) _ broadcasts_S1x128_S512x128 p l).trans
    (cast_drop (M := 1) (N := 128) u shapeCasts_S1x1x128_S1x128 0 l)

/-- A lane's number in a column group. -/
theorem colOf_at (j o : ℕ) (io : IVec S512x128 32) (hio : ∀ (p : Fin 512) (l : Fin 128), io (ix2 p l) = BitVec.ofNat 32 l.val)
    (p : Fin 512) (l : Fin 128) : colOf (BitVec.ofNat 32 j) io (ix2 p l) (BitVec.ofNat 32 o) = BitVec.ofNat 32 (512 * j + o + l.val) := by
  unfold colOf
  rw [hio]
  exact column j o l.val

/-- The lanes of a half after a block, from its four scaled pieces. -/
theorem half_of (f : ℕ → EReal) (j : ℕ) (hj : j < 63) (l : ℕ) (hl : l < 128) (s : Best) (hs : s = state f l (4 * j))
    (Z : Fin 512 → EReal) (hf : ∀ q : Fin 512, f (512 * j + q.val) = if 512 * j + q.val < 32000 then Z q else ⊥)
    (c0 c1 c2 c3 : BitVec 32) (z0 z1 z2 z3 : EReal)
    (h0 : c0 = BitVec.ofNat 32 (512 * j + 0 + l)) (h1 : c1 = BitVec.ofNat 32 (512 * j + 128 + l))
    (h2 : c2 = BitVec.ofNat 32 (512 * j + 256 + l)) (h3 : c3 = BitVec.ofNat 32 (512 * j + 384 + l))
    (e0 : z0 = Z ⟨0 + l, by omega⟩) (e1 : z1 = Z ⟨128 + l, by omega⟩) (e2 : z2 = Z ⟨256 + l, by omega⟩) (e3 : z3 = Z ⟨384 + l, by omega⟩) :
    step (step (step (step s c0 (masked c0 z0)) c1 (masked c1 z1)) c2 (masked c2 z2)) c3 (masked c3 z3) = state f l (4 * (j + 1)) := by
  refine four f l j s hs _ _ _ _ _ _ _ _ h0 h1 h2 h3 ?_ ?_ ?_ ?_
  · rw [h0, e0, masked_of _ (by omega), Nat.add_assoc]; exact (hf ⟨0 + l, by omega⟩).symm
  · rw [h1, e1, masked_of _ (by omega), Nat.add_assoc]; exact (hf ⟨128 + l, by omega⟩).symm
  · rw [h2, e2, masked_of _ (by omega), Nat.add_assoc]; exact (hf ⟨256 + l, by omega⟩).symm
  · rw [h3, e3, masked_of _ (by omega), Nat.add_assoc]; exact (hf ⟨384 + l, by omega⟩).symm

/-- Both halves' lanes after a block, from its weights and combinations. -/
theorem both_state (X : Fin 2 → Fin 1024 → Fin 2560 → ℝ)
    (W : Fin 512 → Fin 2560 → BitVec 8) (σ : Fin 1024 → EReal) (τ : Fin 512 → EReal) (f : Fin 1024 → ℕ → EReal) (j : ℕ) (hj : j < 63)
    (hf : ∀ (r : Fin 1024) (q : Fin 512), f r (512 * j + q.val)
      = if 512 * j + q.val < 32000 then Real.toEReal (plain (X 0 r) (X 1 r) (W q)) * σ r * τ q else ⊥)
    (io : IVec S512x128 32) (hio : ∀ (p : Fin 512) (l : Fin 128), io (ix2 p l) = BitVec.ofNat 32 l.val)
    (b s b' s' : Vec Ideal S512x128 .f32) (x x' : Vec Ideal S512x128 .i32)
    (hU : ∀ (p : Fin 512) (l : Fin 128), ((b (ix2 p l), s (ix2 p l), x (ix2 p l)) : Best) = state (f (up p)) l.val (4 * j))
    (hL : ∀ (p : Fin 512) (l : Fin 128), ((b' (ix2 p l), s' (ix2 p l), x' (ix2 p l)) : Best) = state (f (dn p)) l.val (4 * j))
    (w0 w1 : Vec Ideal S256x2560 .i8) (s0 s1 s2 s3 s4 s5 s6 : Vec Ideal S1x512x2560 .bf16)
    (R0 R1 : Vec Ideal S512x128 .f32) (u0 u1 u2 u3 : Vec Ideal S1x1x128 .f32)
    (hw0 : ∀ (q : Fin 256) (k : Fin 2560), w0 (ix2 q k) = W ⟨q.val, by omega⟩ k)
    (hw1 : ∀ (q : Fin 256) (k : Fin 2560), w1 (ix2 q k) = W ⟨256 + q.val, by omega⟩ k)
    (h0 : ∀ p k, s0 (ix3 0 p k) = Real.toEReal (comb X p k 0)) (h1 : ∀ p k, s1 (ix3 0 p k) = Real.toEReal (comb X p k 1))
    (h2 : ∀ p k, s2 (ix3 0 p k) = Real.toEReal (comb X p k 2)) (h3 : ∀ p k, s3 (ix3 0 p k) = Real.toEReal (comb X p k 3))
    (h4 : ∀ p k, s4 (ix3 0 p k) = Real.toEReal (comb X p k 4)) (h5 : ∀ p k, s5 (ix3 0 p k) = Real.toEReal (comb X p k 5))
    (h6 : ∀ p k, s6 (ix3 0 p k) = Real.toEReal (comb X p k 6))
    (hR0 : ∀ (p : Fin 512) (l : Fin 128), R0 (ix2 p l) = σ (up p)) (hR1 : ∀ (p : Fin 512) (l : Fin 128), R1 (ix2 p l) = σ (dn p))
    (hu0 : ∀ l : Fin 128, u0 (ix3 0 0 l) = τ ⟨0 + l.val, by omega⟩) (hu1 : ∀ l : Fin 128, u1 (ix3 0 0 l) = τ ⟨128 + l.val, by omega⟩)
    (hu2 : ∀ l : Fin 128, u2 (ix3 0 0 l) = τ ⟨256 + l.val, by omega⟩) (hu3 : ∀ l : Fin 128, u3 (ix3 0 0 l) = τ ⟨384 + l.val, by omega⟩)
    (A B C D : FVec Ideal S512x256 .f32)
    (hA : A = k0_pay32 (F := Ideal) (k0_pay23 w0) (k0_pay25 w0) (k0_pay26 w1) (k0_pay27 w0 w1 s0) s3 s4 s6)
    (hB : B = k0_pay33 (F := Ideal) (k0_pay24 w1) (k0_pay26 w1) s2 s4)
    (hC : C = k0_pay34 (F := Ideal) (k0_pay23 w0) (k0_pay25 w0) s1 s3)
    (hD : D = k0_pay35 (F := Ideal) (k0_pay23 w0) (k0_pay24 w1) (k0_pay26 w1) (k0_pay27 w0 w1 s0) s1 s2 s5) :
    (∀ (p : Fin 512) (l : Fin 128),
      ((upBest (BitVec.ofNat 32 j) io A B (k0_pay36 R0) b u0 u1 u2 u3 (ix2 p l), upSecond (BitVec.ofNat 32 j) io A B (k0_pay36 R0) b s u0 u1 u2 u3 (ix2 p l),
        upIndex (BitVec.ofNat 32 j) io A B (k0_pay36 R0) b x u0 u1 u2 u3 (ix2 p l)) : Best) = state (f (up p)) l.val (4 * (j + 1)))
    ∧ ∀ (p : Fin 512) (l : Fin 128),
      ((loBest (BitVec.ofNat 32 j) io C D R1 b' u0 u1 u2 u3 (ix2 p l), loSecond (BitVec.ofNat 32 j) io C D R1 b' s' u0 u1 u2 u3 (ix2 p l),
        loIndex (BitVec.ofNat 32 j) io C D R1 b' x' u0 u1 u2 u3 (ix2 p l)) : Best) = state (f (dn p)) l.val (4 * (j + 1)) := by
  have e0 : ∀ (q : Fin 256) (c : Fin 512), c.val = q.val → (fun k => w0 (ix2 q k)) = W c := fun q c h =>
    funext fun k => (hw0 q k).trans (congrArg (fun c => W c k) (Fin.ext h.symm))
  have e1 : ∀ (q : Fin 256) (c : Fin 512), c.val = 256 + q.val → (fun k => w1 (ix2 q k)) = W c := fun q c h =>
    funext fun k => (hw1 q k).trans (congrArg (fun c => W c k) (Fin.ext h.symm))
  have cA : ∀ (p : Fin 512) (q : Fin 256) (c : Fin 512), c.val = q.val → A (ix2 p q) = Real.toEReal (plain (X 0 (up p)) (X 1 (up p)) (W c)) :=
    fun p q c h => by rw [hA, c11_at w0 w1 s0 s3 s4 s6 p q (X 0 (up p)) (X 1 (up p)) (X 1 (dn p)) (h0 p) (h3 p) (h4 p) (h6 p), e0 q c h]
  have cB : ∀ (p : Fin 512) (q : Fin 256) (c : Fin 512), c.val = 256 + q.val → B (ix2 p q) = Real.toEReal (plain (X 0 (up p)) (X 1 (up p)) (W c)) :=
    fun p q c h => by rw [hB, c12_at w1 s2 s4 p q (X 0 (up p)) (X 1 (up p)) (h2 p) (h4 p), e1 q c h]
  have cC : ∀ (p : Fin 512) (q : Fin 256) (c : Fin 512), c.val = q.val → C (ix2 p q) = Real.toEReal (plain (X 0 (dn p)) (X 1 (dn p)) (W c)) :=
    fun p q c h => by rw [hC, c21_at w0 s1 s3 p q (X 0 (dn p)) (X 1 (dn p)) (h1 p) (h3 p), e0 q c h]
  have cD : ∀ (p : Fin 512) (q : Fin 256) (c : Fin 512), c.val = 256 + q.val → D (ix2 p q) = Real.toEReal (plain (X 0 (dn p)) (X 1 (dn p)) (W c)) :=
    fun p q c h => by rw [hD, c22_at w0 w1 s0 s1 s2 s5 p q (X 0 (up p)) (X 0 (dn p)) (X 1 (dn p)) (h0 p) (h1 p) (h2 p) (h5 p), e1 q c h]
  clear hA hB hC hD
  constructor
  · intro p l
    refine (up_step _ io A B (k0_pay36 R0) b s x u0 u1 u2 u3 (ix2 p l)).trans
      (half_of (f (up p)) j hj l.val l.isLt _ (hU p l) (fun q => Real.toEReal (plain (X 0 (up p)) (X 1 (up p)) (W q)) * σ (up p) * τ q) (hf (up p))
        _ _ _ _ _ _ _ _ (colOf_at j 0 io hio p l) (colOf_at j 128 io hio p l) (colOf_at j 256 io hio p l) (colOf_at j 384 io hio p l) ?_ ?_ ?_ ?_)
    · refine (part_at 0 A R0 u0 slices_S512x256_o0_0_S512x128 p l ⟨0 + l.val, by omega⟩ rfl).trans ?_
      rw [cA p ⟨0 + l.val, by omega⟩ ⟨0 + l.val, by omega⟩ rfl, hR0, hu0]
    · refine (part_at 128 A R0 u1 slices_S512x256_o0_128_S512x128 p l ⟨128 + l.val, by omega⟩ rfl).trans ?_
      rw [cA p ⟨128 + l.val, by omega⟩ ⟨128 + l.val, by omega⟩ rfl, hR0, hu1]
    · refine (part_at 0 B R0 u2 slices_S512x256_o0_0_S512x128 p l ⟨0 + l.val, by omega⟩ rfl).trans ?_
      rw [cB p ⟨0 + l.val, by omega⟩ ⟨256 + l.val, by omega⟩ (by show 256 + l.val = 256 + (0 + l.val); omega), hR0, hu2]
    · refine (part_at 128 B R0 u3 slices_S512x256_o0_128_S512x128 p l ⟨128 + l.val, by omega⟩ rfl).trans ?_
      rw [cB p ⟨128 + l.val, by omega⟩ ⟨384 + l.val, by omega⟩ (by show 384 + l.val = 256 + (128 + l.val); omega), hR0, hu3]
  · intro p l
    refine (lo_step _ io C D R1 b' s' x' u0 u1 u2 u3 (ix2 p l)).trans
      (half_of (f (dn p)) j hj l.val l.isLt _ (hL p l) (fun q => Real.toEReal (plain (X 0 (dn p)) (X 1 (dn p)) (W q)) * σ (dn p) * τ q) (hf (dn p))
        _ _ _ _ _ _ _ _ (colOf_at j 0 io hio p l) (colOf_at j 128 io hio p l) (colOf_at j 256 io hio p l) (colOf_at j 384 io hio p l) ?_ ?_ ?_ ?_)
    · refine (part_at 0 C R1 u0 slices_S512x256_o0_0_S512x128 p l ⟨0 + l.val, by omega⟩ rfl).trans ?_
      rw [cC p ⟨0 + l.val, by omega⟩ ⟨0 + l.val, by omega⟩ rfl, hR1, hu0]
    · refine (part_at 128 C R1 u1 slices_S512x256_o0_128_S512x128 p l ⟨128 + l.val, by omega⟩ rfl).trans ?_
      rw [cC p ⟨128 + l.val, by omega⟩ ⟨128 + l.val, by omega⟩ rfl, hR1, hu1]
    · refine (part_at 0 D R1 u2 slices_S512x256_o0_0_S512x128 p l ⟨0 + l.val, by omega⟩ rfl).trans ?_
      rw [cD p ⟨0 + l.val, by omega⟩ ⟨256 + l.val, by omega⟩ (by show 256 + l.val = 256 + (0 + l.val); omega), hR1, hu2]
    · refine (part_at 128 D R1 u3 slices_S512x256_o0_128_S512x128 p l ⟨128 + l.val, by omega⟩ rfl).trans ?_
      rw [cD p ⟨128 + l.val, by omega⟩ ⟨384 + l.val, by omega⟩ (by show 384 + l.val = 256 + (128 + l.val); omega), hR1, hu3]

/-! ## Reading the two stores of a half each -/

section
variable {sig : RefSig} {κ : Kind} {sp : Space} {e : EltTy}

/-- One store of a [512, 128] piece at row `o` of a [1024, 128] scratch. -/
theorem rows_step (v : View sig κ sp S1024x128 e) (g : v.ty.Contents (Elt Ideal)) (o : ℕ)
    (inb : ∀ a, (![o, 0] : Fin 2 → ℕ) a + S512x128.size a ≤ S1024x128.size a)
    (w : (Rect.unit (s := S1024x128) ![o, 0] S512x128.size inb).shape.Idx → Elt Ideal e) (L : List (View.Piece (Elt Ideal) S1024x128 e))
    (r : Fin 1024) (l : Fin 128) (x : Elt Ideal e)
    (hw : ∀ p : Fin 512, r.val = o + p.val → w (ix2 p l) = x)
    (hL : ¬ (o ≤ r.val ∧ r.val < o + 512) → v.read (Elt Ideal) (v.writes (Elt Ideal) g L) (ix2 r l) = x) :
    v.read (Elt Ideal) (v.writes (Elt Ideal) g ((⟨Rect.unit (s := S1024x128) ![o, 0] S512x128.size inb, w⟩ : View.Piece (Elt Ideal) S1024x128 e) :: L)) (ix2 r l) = x := by
  by_cases h : o ≤ r.val ∧ r.val < o + 512
  · refine (View.read_writes_cons_unit_of_mem v g inb w L (ix2 r l) (ix2 (⟨r.val - o, by omega⟩ : Fin 512) l) rfl fun a => ?_).trans
      (hw ⟨r.val - o, by omega⟩ (by show r.val = o + (r.val - o); omega))
    match a with
    | ⟨0, _⟩ => show r.val = o + (r.val - o); omega
    | ⟨1, _⟩ => exact (Nat.zero_add _).symm
  · rw [← hL h]
    exact View.read_writes_cons_unit_of_not_mem v g inb w L (ix2 r l) rfl 0 (by show r.val < o ∨ o + 512 ≤ r.val; omega)

/-- The two stores, one to each half. -/
theorem rows_two (v : View sig κ sp S1024x128 e) (g : v.ty.Contents (Elt Ideal)) (i1 i0) (L : List (View.Piece (Elt Ideal) S1024x128 e))
    (lw uw : S512x128.Idx → Elt Ideal e) (x : Fin 1024 → Fin 128 → Elt Ideal e)
    (hu : ∀ p l, uw (ix2 p l) = x (up p) l) (hl : ∀ p l, lw (ix2 p l) = x (dn p) l) (r : Fin 1024) (l : Fin 128) :
    v.read (Elt Ideal) (v.writes (Elt Ideal) g
      ((⟨Rect.unit (s := S1024x128) ![512, 0] S512x128.size i1, lw⟩ : View.Piece (Elt Ideal) S1024x128 e)
        :: ⟨Rect.unit (s := S1024x128) ![0, 0] S512x128.size i0, uw⟩ :: L)) (ix2 r l) = x r l := by
  refine rows_step v g 512 i1 _ _ r l _ (fun p h => (hl p l).trans (congrArg (fun r => x r l) (Fin.ext h.symm))) fun n1 => ?_
  refine rows_step v g 0 i0 _ _ r l _ (fun p h => (hu p l).trans (congrArg (fun r => x r l) (Fin.ext ?_))) fun n0 => ?_
  · rw [h, Nat.zero_add]; rfl
  · exact absurd r.isLt (by omega)

end

end Cert.Value

end
-- ==== Proof.Value.Best.lean ====
/-
  What a grid point of the head call leaves in the scratch of the lanes' two
  best: a middle column block.
-/
module

public import proofs.«01_k».proof.Proof.Value.Points
public import proofs.«01_k».proof.Proof.Value.Halves

@[expose] public section

set_option maxRecDepth 16384
set_option maxHeartbeats 1000000

noncomputable section

namespace Cert.Value

open Idealize.ShloMosaic Idealize.ShloMosaic.TcCoe
open Cert.KernelIdeal Cert.KernelIdeal.Gen Cert.KernelIdeal.Body

/-- The lanes' scratch holds the two best of each row's columns so far. -/
def Lanes (c : Dev nD) (g : Scr (F := Ideal) c) (f : Fin 1024 → ℕ → EReal) (n : ℕ) : Prop :=
  ∀ (r : Fin 1024) (l : Fin 128), (((Memref.whole cc0_scratch1).view.read (Elt Ideal) g.2.1 (ix2 r l),
    (Memref.whole cc0_scratch2).view.read (Elt Ideal) g.2.2.1 (ix2 r l),
    (Memref.whole cc0_scratch3).view.read (Elt Ideal) g.2.2.2 (ix2 r l)) : Best) = state (f r) l.val n

/-- Three entries are a lane's two best. -/
theorem best_ext {a b : EReal} {x : BitVec 32} {z : Best} (h1 : a = z.1) (h2 : b = z.2.1) (h3 : x = z.2.2) : (a, b, x) = z :=
  Prod.ext h1 (Prod.ext h2 h3)

/-- Every lane's number. -/
theorem lane_at (p : Fin 512) (l : Fin 128) : iota .tc S512x128 32 [1] iota_S512x128_d1_w32 (ix2 p l) = BitVec.ofNat 32 l.val := by
  show BitVec.ofNat 32 (0 * 128 + l.val) = _
  rw [Nat.zero_mul, Nat.zero_add]

/-- A half of the lanes' scratch, loaded. -/
theorem lane_rows (c : Dev nD) (g : Scr (F := Ideal) c) (o : ℕ) (inb : ∀ a, (![o, 0] : Fin 2 → ℕ) a + S512x128.size a ≤ S1024x128.size a)
    (p : Fin 512) (l : Fin 128) (r : Fin 1024) (hr : r.val = o + p.val) :
    ((View.readAt (Elt Ideal) (Memref.whole cc0_scratch1).view (Rect.unit (s := S1024x128) ![o, 0] S512x128.size inb).toLoadRect g.2.1 (ix2 p l),
      View.readAt (Elt Ideal) (Memref.whole cc0_scratch2).view (Rect.unit (s := S1024x128) ![o, 0] S512x128.size inb).toLoadRect g.2.2.1 (ix2 p l),
      View.readAt (Elt Ideal) (Memref.whole cc0_scratch3).view (Rect.unit (s := S1024x128) ![o, 0] S512x128.size inb).toLoadRect g.2.2.2 (ix2 p l)) : Best)
      = ((Memref.whole cc0_scratch1).view.read (Elt Ideal) g.2.1 (ix2 r l),
        (Memref.whole cc0_scratch2).view.read (Elt Ideal) g.2.2.1 (ix2 r l),
        (Memref.whole cc0_scratch3).view.read (Elt Ideal) g.2.2.2 (ix2 r l)) :=
  congrArg (fun x => (((Memref.whole cc0_scratch1).view.read (Elt Ideal) g.2.1 x, (Memref.whole cc0_scratch2).view.read (Elt Ideal) g.2.2.1 x,
    (Memref.whole cc0_scratch3).view.read (Elt Ideal) g.2.2.2 x) : Best)) (idx2 o 0 inb p l r l hr (Nat.zero_add _).symm)

variable (c : Dev nD) (t : Fin cfg0.N) (Y : (w : Fin cfg0.W) → (cfg0.win w).block.Idx → Elt Ideal (cfg0.win w).elt) (g : Scr (F := Ideal) c)
  (X : Fin 2 → Fin 1024 → Fin 2560 → ℝ) (σ : Fin 1024 → EReal)

/-- A middle column block carries the lanes on. -/
theorem lanesB (hc1 hc2) (hσ : ∀ (r : Fin 1024) (l : Fin 128), (Y 1 : Vec Ideal S1024x128 .f32) (ix2 r l) = σ r) (hg : Held c g X)
    (f : Fin 1024 → ℕ → EReal) (j : ℕ) (hj : j < 63) (hi : ((grid0.coords t) 1).val = j)
    (hf : ∀ (r : Fin 1024) (q : Fin 512), f r (512 * j + q.val) = if 512 * j + q.val < 32000 then
      Real.toEReal (plain (X 0 r) (X 1 r) fun k => (Y 2 : Vec Ideal S512x2560 .i8) (ix2 q k)) * σ r * (Y 3 : Vec Ideal S1x1x512 .f32) (ix3 0 0 q) else ⊥)
    (hl : Lanes c g f (4 * j)) :
    Lanes c (atB c t Y g hc1 hc2).1.2 f (4 * (j + 1)) := by
  subst hi
  have key := both_state X (fun q k => (Y 2 : Vec Ideal S512x2560 .i8) (ix2 q k)) σ (fun q => (Y 3 : Vec Ideal S1x1x512 .f32) (ix3 0 0 q)) f _ hj hf
      runB.sl.v65 lane_at
      (View.readAt (Elt Ideal) (Memref.whole cc0_scratch1).view (Rect.unit (s := S1024x128) ![0, 0] S512x128.size inb_S1024x128_S512x128_0_0).toLoadRect g.2.1)
      (View.readAt (Elt Ideal) (Memref.whole cc0_scratch2).view (Rect.unit (s := S1024x128) ![0, 0] S512x128.size inb_S1024x128_S512x128_0_0).toLoadRect g.2.2.1)
      (View.readAt (Elt Ideal) (Memref.whole cc0_scratch1).view (Rect.unit (s := S1024x128) ![512, 0] S512x128.size inb_S1024x128_S512x128_512_0).toLoadRect g.2.1)
      (View.readAt (Elt Ideal) (Memref.whole cc0_scratch2).view (Rect.unit (s := S1024x128) ![512, 0] S512x128.size inb_S1024x128_S512x128_512_0).toLoadRect g.2.2.1)
      (View.readAt (Elt Ideal) (Memref.whole cc0_scratch3).view (Rect.unit (s := S1024x128) ![0, 0] S512x128.size inb_S1024x128_S512x128_0_0).toLoadRect g.2.2.2)
      (View.readAt (Elt Ideal) (Memref.whole cc0_scratch3).view (Rect.unit (s := S1024x128) ![512, 0] S512x128.size inb_S1024x128_S512x128_512_0).toLoadRect g.2.2.2)
      (fun p l => (lane_rows c g 0 _ p l (up p) (Nat.zero_add _).symm).trans (hl (up p) l))
      (fun p l => (lane_rows c g 512 _ p l (dn p) rfl).trans (hl (dn p) l))
      (View.readAt (Elt Ideal) (st0_2 t).view (Rect.unit (s := S512x2560) ![0, 0] S256x2560.size inb_S512x2560_S256x2560_0_0).toLoadRect ((hstage0_2 ((cfg0.slots t 2).cast nbuf0_2)).unread (Y 2)))
      (View.readAt (Elt Ideal) (st0_2 t).view (Rect.unit (s := S512x2560) ![256, 0] S256x2560.size inb_S512x2560_S256x2560_256_0).toLoadRect ((hstage0_2 ((cfg0.slots t 2).cast nbuf0_2)).unread (Y 2)))
      (View.readAt (Elt Ideal) (Memref.whole cc0_scratch0).view (Rect.unit (s := S7x512x2560) ![0, 0, 0] S1x512x2560.size inb_S7x512x2560_S1x512x2560_0_0_0).toLoadRect g.1)
      (View.readAt (Elt Ideal) (Memref.whole cc0_scratch0).view (Rect.unit (s := S7x512x2560) ![1, 0, 0] S1x512x2560.size inb_S7x512x2560_S1x512x2560_1_0_0).toLoadRect g.1)
      (View.readAt (Elt Ideal) (Memref.whole cc0_scratch0).view (Rect.unit (s := S7x512x2560) ![2, 0, 0] S1x512x2560.size inb_S7x512x2560_S1x512x2560_2_0_0).toLoadRect g.1)
      (View.readAt (Elt Ideal) (Memref.whole cc0_scratch0).view (Rect.unit (s := S7x512x2560) ![3, 0, 0] S1x512x2560.size inb_S7x512x2560_S1x512x2560_3_0_0).toLoadRect g.1)
      (View.readAt (Elt Ideal) (Memref.whole cc0_scratch0).view (Rect.unit (s := S7x512x2560) ![4, 0, 0] S1x512x2560.size inb_S7x512x2560_S1x512x2560_4_0_0).toLoadRect g.1)
      (View.readAt (Elt Ideal) (Memref.whole cc0_scratch0).view (Rect.unit (s := S7x512x2560) ![5, 0, 0] S1x512x2560.size inb_S7x512x2560_S1x512x2560_5_0_0).toLoadRect g.1)
      (View.readAt (Elt Ideal) (Memref.whole cc0_scratch0).view (Rect.unit (s := S7x512x2560) ![6, 0, 0] S1x512x2560.size inb_S7x512x2560_S1x512x2560_6_0_0).toLoadRect g.1)
      (View.readAt (Elt Ideal) (st0_1 t).view (Rect.unit (s := S1024x128) ![0, 0] S512x128.size inb_S1024x128_S512x128_0_0).toLoadRect ((hstage0_1 ((cfg0.slots t 1).cast nbuf0_1)).unread (Y 1)))
      (View.readAt (Elt Ideal) (st0_1 t).view (Rect.unit (s := S1024x128) ![512, 0] S512x128.size inb_S1024x128_S512x128_512_0).toLoadRect ((hstage0_1 ((cfg0.slots t 1).cast nbuf0_1)).unread (Y 1)))
      (View.readAt (Elt Ideal) (st0_3 t).view (Rect.unit (s := S1x1x512) ![0, 0, 0] S1x1x128.size inb_S1x1x512_S1x1x128_0_0_0).toLoadRect ((hstage0_3 ((cfg0.slots t 3).cast nbuf0_3)).unread (Y 3)))
      (View.readAt (Elt Ideal) (st0_3 t).view (Rect.unit (s := S1x1x512) ![0, 0, 128] S1x1x128.size inb_S1x1x512_S1x1x128_0_0_128).toLoadRect ((hstage0_3 ((cfg0.slots t 3).cast nbuf0_3)).unread (Y 3)))
      (View.readAt (Elt Ideal) (st0_3 t).view (Rect.unit (s := S1x1x512) ![0, 0, 256] S1x1x128.size inb_S1x1x512_S1x1x128_0_0_256).toLoadRect ((hstage0_3 ((cfg0.slots t 3).cast nbuf0_3)).unread (Y 3)))
      (View.readAt (Elt Ideal) (st0_3 t).view (Rect.unit (s := S1x1x512) ![0, 0, 384] S1x1x128.size inb_S1x1x512_S1x1x128_0_0_384).toLoadRect ((hstage0_3 ((cfg0.slots t 3).cast nbuf0_3)).unread (Y 3)))
      (fun q k => load_at (st0_2 t) _ (Y 2) _ _ _ (idx2 0 0 _ q k _ k (Nat.zero_add _).symm (Nat.zero_add _).symm))
      (fun q k => load_at (st0_2 t) _ (Y 2) _ _ _ (idx2 256 0 _ q k _ k rfl (Nat.zero_add _).symm))
      (fun p k => (congrArg (View.read (Elt Ideal) (Memref.whole cc0_scratch0).view g.1) (idx3 0 0 0 _ 0 p k 0 p k rfl (Nat.zero_add _).symm (Nat.zero_add _).symm)).trans (hg 0 p k))
      (fun p k => (congrArg (View.read (Elt Ideal) (Memref.whole cc0_scratch0).view g.1) (idx3 1 0 0 _ 0 p k 1 p k rfl (Nat.zero_add _).symm (Nat.zero_add _).symm)).trans (hg 1 p k))
      (fun p k => (congrArg (View.read (Elt Ideal) (Memref.whole cc0_scratch0).view g.1) (idx3 2 0 0 _ 0 p k 2 p k rfl (Nat.zero_add _).symm (Nat.zero_add _).symm)).trans (hg 2 p k))
      (fun p k => (congrArg (View.read (Elt Ideal) (Memref.whole cc0_scratch0).view g.1) (idx3 3 0 0 _ 0 p k 3 p k rfl (Nat.zero_add _).symm (Nat.zero_add _).symm)).trans (hg 3 p k))
      (fun p k => (congrArg (View.read (Elt Ideal) (Memref.whole cc0_scratch0).view g.1) (idx3 4 0 0 _ 0 p k 4 p k rfl (Nat.zero_add _).symm (Nat.zero_add _).symm)).trans (hg 4 p k))
      (fun p k => (congrArg (View.read (Elt Ideal) (Memref.whole cc0_scratch0).view g.1) (idx3 5 0 0 _ 0 p k 5 p k rfl (Nat.zero_add _).symm (Nat.zero_add _).symm)).trans (hg 5 p k))
      (fun p k => (congrArg (View.read (Elt Ideal) (Memref.whole cc0_scratch0).view g.1) (idx3 6 0 0 _ 0 p k 6 p k rfl (Nat.zero_add _).symm (Nat.zero_add _).symm)).trans (hg 6 p k))
      (fun p l => (load_at (st0_1 t) _ (Y 1) _ _ _ (idx2 0 0 _ p l (up p) l (Nat.zero_add _).symm (Nat.zero_add _).symm)).trans (hσ _ _))
      (fun p l => (load_at (st0_1 t) _ (Y 1) _ _ _ (idx2 512 0 _ p l (dn p) l rfl (Nat.zero_add _).symm)).trans (hσ _ _))
      (fun l => load_at (st0_3 t) _ (Y 3) _ _ _ (idx3 0 0 0 _ 0 0 l 0 0 _ rfl rfl rfl))
      (fun l => load_at (st0_3 t) _ (Y 3) _ _ _ (idx3 0 0 128 _ 0 0 l 0 0 _ rfl rfl rfl))
      (fun l => load_at (st0_3 t) _ (Y 3) _ _ _ (idx3 0 0 256 _ 0 0 l 0 0 _ rfl rfl rfl))
      (fun l => load_at (st0_3 t) _ (Y 3) _ _ _ (idx3 0 0 384 _ 0 0 l 0 0 _ rfl rfl rfl))
      (runB.sl.r_5 c (st0_2 t) ((hstage0_2 ((cfg0.slots t 2).cast nbuf0_2)).unread (Y 2)) g.1) (runB.sl.r_6 c (st0_2 t) ((hstage0_2 ((cfg0.slots t 2).cast nbuf0_2)).unread (Y 2)) g.1) (runB.sl.r_7 c (st0_2 t) ((hstage0_2 ((cfg0.slots t 2).cast nbuf0_2)).unread (Y 2)) g.1) (runB.sl.r_8 c (st0_2 t) ((hstage0_2 ((cfg0.slots t 2).cast nbuf0_2)).unread (Y 2)) g.1) rfl rfl rfl rfl
  intro r l
  refine best_ext ?_ ?_ ?_
  · unfold atB runB
    dsimp only
    unfold runB.sl.G1_2
    refine rows_two (e := .f32) _ _ _ _ [] _ _ (fun r l => (state (f r) l.val (4 * (((grid0.coords t) 1).val + 1))).1) ?_ ?_ r l
    · intro p l
      have e := congrArg (fun z : Best => z.1) (key.1 p l)
      dsimp only [upBest] at e
      dsimp only [runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.v102, runB.sl.v170, runB.sl.v171, runB.sl.v172]
      exact e
    · intro p l
      have e := congrArg (fun z : Best => z.1) (key.2 p l)
      dsimp only [loBest] at e
      dsimp only [runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.v102, runB.sl.v170, runB.sl.v171, runB.sl.v172]
      exact e
  · unfold atB runB
    dsimp only
    unfold runB.sl.G2_2
    refine rows_two (e := .f32) _ _ _ _ [] _ _ (fun r l => (state (f r) l.val (4 * (((grid0.coords t) 1).val + 1))).2.1) ?_ ?_ r l
    · intro p l
      have e := congrArg (fun z : Best => z.2.1) (key.1 p l)
      dsimp only [upSecond] at e
      dsimp only [runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.v102, runB.sl.v170, runB.sl.v171, runB.sl.v172]
      exact e
    · intro p l
      have e := congrArg (fun z : Best => z.2.1) (key.2 p l)
      dsimp only [loSecond] at e
      dsimp only [runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.v102, runB.sl.v170, runB.sl.v171, runB.sl.v172]
      exact e
  · unfold atB runB
    dsimp only
    unfold runB.sl.G3_2
    refine rows_two (e := .i32) _ _ _ _ [] _ _ (fun r l => (state (f r) l.val (4 * (((grid0.coords t) 1).val + 1))).2.2) ?_ ?_ r l
    · intro p l
      have e := congrArg (fun z : Best => z.2.2) (key.1 p l)
      dsimp only [upIndex] at e
      dsimp only [runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.v102, runB.sl.v170, runB.sl.v171, runB.sl.v172]
      exact e
    · intro p l
      have e := congrArg (fun z : Best => z.2.2) (key.2 p l)
      dsimp only [loIndex] at e
      dsimp only [runB.sl.r_9, runB.sl.r_10, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.v102, runB.sl.v170, runB.sl.v171, runB.sl.v172]
      exact e

end Cert.Value

end
-- ==== Proof.Value.First.lean ====
/-
  What a grid point of the head call leaves in the scratch of the lanes' two
  best: a first column block.
-/
module

public import proofs.«01_k».proof.Proof.Value.Best

@[expose] public section

set_option maxRecDepth 16384
set_option maxHeartbeats 1000000

noncomputable section

namespace Cert.Value

open Idealize.ShloMosaic Idealize.ShloMosaic.TcCoe
open Cert.KernelIdeal Cert.KernelIdeal.Gen Cert.KernelIdeal.Body

section
variable {sig : RefSig} {κ : Kind} {sp : Space} {e : EltTy}

/-- A store over a whole [1024, 128] scratch. -/
theorem fill_at (v : View sig κ sp S1024x128 e) (g : v.ty.Contents (Elt Ideal)) (inb : ∀ a, (![0, 0] : Fin 2 → ℕ) a + S1024x128.size a ≤ S1024x128.size a)
    (w : S1024x128.Idx → Elt Ideal e) (L : List (View.Piece (Elt Ideal) S1024x128 e)) (x : Elt Ideal e) (hw : ∀ i, w i = x) (r : Fin 1024) (l : Fin 128) :
    v.read (Elt Ideal) (v.writes (Elt Ideal) g ((⟨Rect.unit (s := S1024x128) ![0, 0] S1024x128.size inb, w⟩ : View.Piece (Elt Ideal) S1024x128 e) :: L)) (ix2 r l) = x :=
  (View.read_writes_cons_unit_of_mem v g inb w L (ix2 r l) (ix2 r l) rfl fun a => by
    match a with
    | ⟨0, _⟩ => exact (Nat.zero_add _).symm
    | ⟨1, _⟩ => exact (Nat.zero_add _).symm).trans (hw _)

end

/-! The scratch starts at minus infinity, minus infinity and column zero. -/

theorem fill1 (i : S1024x128.Idx) : k0_pay20 (F := Ideal) i = ⊥ := by unfold k0_pay20; rw [cast_self]; rfl
theorem fill2 (i : S1024x128.Idx) : k0_pay21 (F := Ideal) i = ⊥ := by unfold k0_pay21; rw [cast_self]; rfl
theorem fill3 (i : S1024x128.Idx) : k0_pay22 i = 0#32 := by unfold k0_pay22; rw [cast_self]; rfl

theorem start1 (p : Fin 512) (l : Fin 128) : (runA.sl.v68 : Vec Ideal S512x128 .f32) (ix2 p l) = (⊥ : EReal) := by
  unfold runA.sl.v68 View.readCov
  refine Eq.trans (congrArg (View.read (Elt Ideal) (Memref.whole cc0_scratch1).view ((Memref.whole cc0_scratch1).view.writes (Elt Ideal) (Memref.whole cc0_scratch1).view.junk _))
    (idx2 0 0 _ p l (up p) l (Nat.zero_add _).symm (Nat.zero_add _).symm)) ?_
  unfold runA.sl.G1_1
  exact fill_at (e := .f32) _ _ _ _ _ _ fill1 _ _
theorem start2 (p : Fin 512) (l : Fin 128) : (runA.sl.v69 : Vec Ideal S512x128 .f32) (ix2 p l) = (⊥ : EReal) := by
  unfold runA.sl.v69 View.readCov
  refine Eq.trans (congrArg (View.read (Elt Ideal) (Memref.whole cc0_scratch2).view ((Memref.whole cc0_scratch2).view.writes (Elt Ideal) (Memref.whole cc0_scratch2).view.junk _))
    (idx2 0 0 _ p l (up p) l (Nat.zero_add _).symm (Nat.zero_add _).symm)) ?_
  unfold runA.sl.G2_1
  exact fill_at (e := .f32) _ _ _ _ _ _ fill2 _ _
theorem start3 (p : Fin 512) (l : Fin 128) : (runA.sl.v70 : Vec Ideal S512x128 .i32) (ix2 p l) = 0#32 := by
  unfold runA.sl.v70 View.readCov
  refine Eq.trans (congrArg (View.read (Elt Ideal) (Memref.whole cc0_scratch3).view ((Memref.whole cc0_scratch3).view.writes (Elt Ideal) (Memref.whole cc0_scratch3).view.junk _))
    (idx2 0 0 _ p l (up p) l (Nat.zero_add _).symm (Nat.zero_add _).symm)) ?_
  unfold runA.sl.G3_1
  exact fill_at (e := .i32) _ _ _ _ _ _ fill3 _ _

/-! The lower half is read back untouched by the upper half's store. -/

section
variable (c : Dev nD) (i : grid0.Coords) (M0 : Memref sig .tc .vmem S2x1024x2560 .i8) (M1 : Memref sig .tc .vmem S1024x128 .f32)
  (M2 : Memref sig .tc .vmem S512x2560 .i8) (M3 : Memref sig .tc .vmem S1x1x512 .f32)
  (f0 : Bf (F := Ideal) c M0) (f1 : Bf (F := Ideal) c M1) (f2 : Bf (F := Ideal) c M2) (f3 : Bf (F := Ideal) c M3)

theorem lower1 (p : Fin 512) (l : Fin 128) :
    (runA.sl.v170 c i M0 M1 M2 M3 f0 f1 f2 f3 : Vec Ideal S512x128 .f32) (ix2 p l) = (⊥ : EReal) := by
  unfold runA.sl.v170 View.readCov
  refine Eq.trans (congrArg (View.read (Elt Ideal) (Memref.whole cc0_scratch1).view ((Memref.whole cc0_scratch1).view.writes (Elt Ideal) (Memref.whole cc0_scratch1).view.junk _))
    (idx2 512 0 _ p l (dn p) l rfl (Nat.zero_add _).symm)) ?_
  unfold runA.sl.G1_2
  refine rows_step (e := .f32) _ _ 0 _ _ _ _ _ _ (fun q hq => absurd hq ?_) fun _ => ?_
  · show ¬ 512 + p.val = 0 + q.val
    omega
  · unfold runA.sl.G1_1
    exact fill_at (e := .f32) _ _ _ _ _ _ fill1 _ _
theorem lower2 (p : Fin 512) (l : Fin 128) :
    (runA.sl.v171 c i M0 M1 M2 M3 f0 f1 f2 f3 : Vec Ideal S512x128 .f32) (ix2 p l) = (⊥ : EReal) := by
  unfold runA.sl.v171 View.readCov
  refine Eq.trans (congrArg (View.read (Elt Ideal) (Memref.whole cc0_scratch2).view ((Memref.whole cc0_scratch2).view.writes (Elt Ideal) (Memref.whole cc0_scratch2).view.junk _))
    (idx2 512 0 _ p l (dn p) l rfl (Nat.zero_add _).symm)) ?_
  unfold runA.sl.G2_2
  refine rows_step (e := .f32) _ _ 0 _ _ _ _ _ _ (fun q hq => absurd hq ?_) fun _ => ?_
  · show ¬ 512 + p.val = 0 + q.val
    omega
  · unfold runA.sl.G2_1
    exact fill_at (e := .f32) _ _ _ _ _ _ fill2 _ _
theorem lower3 (p : Fin 512) (l : Fin 128) :
    (runA.sl.v172 c i M0 M1 M2 M3 f0 f1 f2 f3 : Vec Ideal S512x128 .i32) (ix2 p l) = 0#32 := by
  unfold runA.sl.v172 View.readCov
  refine Eq.trans (congrArg (View.read (Elt Ideal) (Memref.whole cc0_scratch3).view ((Memref.whole cc0_scratch3).view.writes (Elt Ideal) (Memref.whole cc0_scratch3).view.junk _))
    (idx2 512 0 _ p l (dn p) l rfl (Nat.zero_add _).symm)) ?_
  unfold runA.sl.G3_2
  refine rows_step (e := .i32) _ _ 0 _ _ _ _ _ _ (fun q hq => absurd hq ?_) fun _ => ?_
  · show ¬ 512 + p.val = 0 + q.val
    omega
  · unfold runA.sl.G3_1
    exact fill_at (e := .i32) _ _ _ _ _ _ fill3 _ _

end

variable (c : Dev nD) (t : Fin cfg0.N) (Y : (w : Fin cfg0.W) → (cfg0.win w).block.Idx → Elt Ideal (cfg0.win w).elt) (g : Scr (F := Ideal) c)
  (X : Fin 2 → Fin 1024 → Fin 2560 → ℝ) (σ : Fin 1024 → EReal)

/-- A first column block starts the lanes. -/
theorem lanesA (hc1 hc2) (hσ : ∀ (r : Fin 1024) (l : Fin 128), (Y 1 : Vec Ideal S1024x128 .f32) (ix2 r l) = σ r) (hX : ∀ h r k, code ((Y 0 : Vec Ideal S2x1024x2560 .i8) (ix3 h r k)) = X h r k)
    (f : Fin 1024 → ℕ → EReal) (j : ℕ) (hj : j < 63) (hi : ((grid0.coords t) 1).val = j)
    (hf : ∀ (r : Fin 1024) (q : Fin 512), f r (512 * j + q.val) = if 512 * j + q.val < 32000 then
      Real.toEReal (plain (X 0 r) (X 1 r) fun k => (Y 2 : Vec Ideal S512x2560 .i8) (ix2 q k)) * σ r * (Y 3 : Vec Ideal S1x1x512 .f32) (ix3 0 0 q) else ⊥)
    (h0 : j = 0) :
    Lanes c (atA c t Y g hc1 hc2).1.2 f (4 * (j + 1)) := by
  subst hi
  have key := both_state X (fun q k => (Y 2 : Vec Ideal S512x2560 .i8) (ix2 q k)) σ (fun q => (Y 3 : Vec Ideal S1x1x512 .f32) (ix3 0 0 q)) f _ hj hf
      runA.sl.v65 lane_at
      (runA.sl.v68)
      (runA.sl.v69)
      (runA.sl.v170 c (grid0.coords t) (st0_0 t) (st0_1 t) (st0_2 t) (st0_3 t) ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)))
      (runA.sl.v171 c (grid0.coords t) (st0_0 t) (st0_1 t) (st0_2 t) (st0_3 t) ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)))
      (runA.sl.v70)
      (runA.sl.v172 c (grid0.coords t) (st0_0 t) (st0_1 t) (st0_2 t) (st0_3 t) ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)))
      (fun p l => (best_ext (start1 p l) (start2 p l) (start3 p l)).trans (by rw [h0]))
      (fun p l => (best_ext (lower1 c (grid0.coords t) (st0_0 t) (st0_1 t) (st0_2 t) (st0_3 t) ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) p l) (lower2 c (grid0.coords t) (st0_0 t) (st0_1 t) (st0_2 t) (st0_3 t) ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) p l) (lower3 c (grid0.coords t) (st0_0 t) (st0_1 t) (st0_2 t) (st0_3 t) ((hstage0_0 ((cfg0.slots t 0).cast nbuf0_0)).unread (Y 0)) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) p l)).trans (by rw [h0]))
      (View.readAt (Elt Ideal) (st0_2 t).view (Rect.unit (s := S512x2560) ![0, 0] S256x2560.size inb_S512x2560_S256x2560_0_0).toLoadRect ((hstage0_2 ((cfg0.slots t 2).cast nbuf0_2)).unread (Y 2)))
      (View.readAt (Elt Ideal) (st0_2 t).view (Rect.unit (s := S512x2560) ![256, 0] S256x2560.size inb_S512x2560_S256x2560_256_0).toLoadRect ((hstage0_2 ((cfg0.slots t 2).cast nbuf0_2)).unread (Y 2)))
      (runA.sl.v32 c (st0_0 t) ((hstage0_0 ((cfg0.slots t 0).cast nbuf0_0)).unread (Y 0)))
      (runA.sl.v35 c (st0_0 t) ((hstage0_0 ((cfg0.slots t 0).cast nbuf0_0)).unread (Y 0)))
      (runA.sl.v39 c (st0_0 t) ((hstage0_0 ((cfg0.slots t 0).cast nbuf0_0)).unread (Y 0)))
      (runA.sl.v43 c (st0_0 t) ((hstage0_0 ((cfg0.slots t 0).cast nbuf0_0)).unread (Y 0)))
      (runA.sl.v46 c (st0_0 t) ((hstage0_0 ((cfg0.slots t 0).cast nbuf0_0)).unread (Y 0)))
      (runA.sl.v50 c (st0_0 t) ((hstage0_0 ((cfg0.slots t 0).cast nbuf0_0)).unread (Y 0)))
      (runA.sl.v54 c (st0_0 t) ((hstage0_0 ((cfg0.slots t 0).cast nbuf0_0)).unread (Y 0)))
      (View.readAt (Elt Ideal) (st0_1 t).view (Rect.unit (s := S1024x128) ![0, 0] S512x128.size inb_S1024x128_S512x128_0_0).toLoadRect ((hstage0_1 ((cfg0.slots t 1).cast nbuf0_1)).unread (Y 1)))
      (View.readAt (Elt Ideal) (st0_1 t).view (Rect.unit (s := S1024x128) ![512, 0] S512x128.size inb_S1024x128_S512x128_512_0).toLoadRect ((hstage0_1 ((cfg0.slots t 1).cast nbuf0_1)).unread (Y 1)))
      (View.readAt (Elt Ideal) (st0_3 t).view (Rect.unit (s := S1x1x512) ![0, 0, 0] S1x1x128.size inb_S1x1x512_S1x1x128_0_0_0).toLoadRect ((hstage0_3 ((cfg0.slots t 3).cast nbuf0_3)).unread (Y 3)))
      (View.readAt (Elt Ideal) (st0_3 t).view (Rect.unit (s := S1x1x512) ![0, 0, 128] S1x1x128.size inb_S1x1x512_S1x1x128_0_0_128).toLoadRect ((hstage0_3 ((cfg0.slots t 3).cast nbuf0_3)).unread (Y 3)))
      (View.readAt (Elt Ideal) (st0_3 t).view (Rect.unit (s := S1x1x512) ![0, 0, 256] S1x1x128.size inb_S1x1x512_S1x1x128_0_0_256).toLoadRect ((hstage0_3 ((cfg0.slots t 3).cast nbuf0_3)).unread (Y 3)))
      (View.readAt (Elt Ideal) (st0_3 t).view (Rect.unit (s := S1x1x512) ![0, 0, 384] S1x1x128.size inb_S1x1x512_S1x1x128_0_0_384).toLoadRect ((hstage0_3 ((cfg0.slots t 3).cast nbuf0_3)).unread (Y 3)))
      (fun q k => load_at (st0_2 t) _ (Y 2) _ _ _ (idx2 0 0 _ q k _ k (Nat.zero_add _).symm (Nat.zero_add _).symm))
      (fun q k => load_at (st0_2 t) _ (Y 2) _ _ _ (idx2 256 0 _ q k _ k rfl (Nat.zero_add _).symm))
      (slot0 c X (st0_0 t) (hstage0_0 ((cfg0.slots t 0).cast nbuf0_0)) (Y 0) hX)
      (slot1 c X (st0_0 t) (hstage0_0 ((cfg0.slots t 0).cast nbuf0_0)) (Y 0) hX)
      (slot2 c X (st0_0 t) (hstage0_0 ((cfg0.slots t 0).cast nbuf0_0)) (Y 0) hX)
      (slot3 c X (st0_0 t) (hstage0_0 ((cfg0.slots t 0).cast nbuf0_0)) (Y 0) hX)
      (slot4 c X (st0_0 t) (hstage0_0 ((cfg0.slots t 0).cast nbuf0_0)) (Y 0) hX)
      (slot5 c X (st0_0 t) (hstage0_0 ((cfg0.slots t 0).cast nbuf0_0)) (Y 0) hX)
      (slot6 c X (st0_0 t) (hstage0_0 ((cfg0.slots t 0).cast nbuf0_0)) (Y 0) hX)
      (fun p l => (load_at (st0_1 t) _ (Y 1) _ _ _ (idx2 0 0 _ p l (up p) l (Nat.zero_add _).symm (Nat.zero_add _).symm)).trans (hσ _ _))
      (fun p l => (load_at (st0_1 t) _ (Y 1) _ _ _ (idx2 512 0 _ p l (dn p) l rfl (Nat.zero_add _).symm)).trans (hσ _ _))
      (fun l => load_at (st0_3 t) _ (Y 3) _ _ _ (idx3 0 0 0 _ 0 0 l 0 0 _ rfl rfl rfl))
      (fun l => load_at (st0_3 t) _ (Y 3) _ _ _ (idx3 0 0 128 _ 0 0 l 0 0 _ rfl rfl rfl))
      (fun l => load_at (st0_3 t) _ (Y 3) _ _ _ (idx3 0 0 256 _ 0 0 l 0 0 _ rfl rfl rfl))
      (fun l => load_at (st0_3 t) _ (Y 3) _ _ _ (idx3 0 0 384 _ 0 0 l 0 0 _ rfl rfl rfl))
      (runA.sl.r_10 c (st0_0 t) (st0_2 t) ((hstage0_0 ((cfg0.slots t 0).cast nbuf0_0)).unread (Y 0)) ((hstage0_2 ((cfg0.slots t 2).cast nbuf0_2)).unread (Y 2))) (runA.sl.r_11 c (st0_0 t) (st0_2 t) ((hstage0_0 ((cfg0.slots t 0).cast nbuf0_0)).unread (Y 0)) ((hstage0_2 ((cfg0.slots t 2).cast nbuf0_2)).unread (Y 2))) (runA.sl.r_12 c (st0_0 t) (st0_2 t) ((hstage0_0 ((cfg0.slots t 0).cast nbuf0_0)).unread (Y 0)) ((hstage0_2 ((cfg0.slots t 2).cast nbuf0_2)).unread (Y 2))) (runA.sl.r_13 c (st0_0 t) (st0_2 t) ((hstage0_0 ((cfg0.slots t 0).cast nbuf0_0)).unread (Y 0)) ((hstage0_2 ((cfg0.slots t 2).cast nbuf0_2)).unread (Y 2))) rfl rfl rfl rfl
  intro r l
  refine best_ext ?_ ?_ ?_
  · unfold atA runA
    dsimp only
    unfold runA.sl.G1_3 runA.sl.G1_2
    refine rows_two (e := .f32) _ _ _ _ _ _ _ (fun r l => (state (f r) l.val (4 * (((grid0.coords t) 1).val + 1))).1) ?_ ?_ r l
    · intro p l
      have e := congrArg (fun z : Best => z.1) (key.1 p l)
      dsimp only [upBest] at e
      dsimp only [runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.v102]
      exact e
    · intro p l
      have e := congrArg (fun z : Best => z.1) (key.2 p l)
      dsimp only [loBest] at e
      dsimp only [runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.v102]
      exact e
  · unfold atA runA
    dsimp only
    unfold runA.sl.G2_3 runA.sl.G2_2
    refine rows_two (e := .f32) _ _ _ _ _ _ _ (fun r l => (state (f r) l.val (4 * (((grid0.coords t) 1).val + 1))).2.1) ?_ ?_ r l
    · intro p l
      have e := congrArg (fun z : Best => z.2.1) (key.1 p l)
      dsimp only [upSecond] at e
      dsimp only [runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.v102]
      exact e
    · intro p l
      have e := congrArg (fun z : Best => z.2.1) (key.2 p l)
      dsimp only [loSecond] at e
      dsimp only [runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.v102]
      exact e
  · unfold atA runA
    dsimp only
    unfold runA.sl.G3_3 runA.sl.G3_2
    refine rows_two (e := .i32) _ _ _ _ _ _ _ (fun r l => (state (f r) l.val (4 * (((grid0.coords t) 1).val + 1))).2.2) ?_ ?_ r l
    · intro p l
      have e := congrArg (fun z : Best => z.2.2) (key.1 p l)
      dsimp only [upIndex] at e
      dsimp only [runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.v102]
      exact e
    · intro p l
      have e := congrArg (fun z : Best => z.2.2) (key.2 p l)
      dsimp only [loIndex] at e
      dsimp only [runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.v102]
      exact e

end Cert.Value

end
-- ==== Proof.Value.Last.lean ====
/-
  What a grid point of the head call leaves in the scratch of the lanes' two
  best: a last column block.
-/
module

public import proofs.«01_k».proof.Proof.Value.Best

@[expose] public section

set_option maxRecDepth 16384
set_option maxHeartbeats 1000000

noncomputable section

namespace Cert.Value

open Idealize.ShloMosaic Idealize.ShloMosaic.TcCoe
open Cert.KernelIdeal Cert.KernelIdeal.Gen Cert.KernelIdeal.Body

variable (c : Dev nD) (t : Fin cfg0.N) (Y : (w : Fin cfg0.W) → (cfg0.win w).block.Idx → Elt Ideal (cfg0.win w).elt) (g : Scr (F := Ideal) c)
  (X : Fin 2 → Fin 1024 → Fin 2560 → ℝ) (σ : Fin 1024 → EReal)

/-- A last column block carries the lanes on. -/
theorem lanesC (hc1 hc2) (hσ : ∀ (r : Fin 1024) (l : Fin 128), (Y 1 : Vec Ideal S1024x128 .f32) (ix2 r l) = σ r) (hg : Held c g X)
    (f : Fin 1024 → ℕ → EReal) (j : ℕ) (hj : j < 63) (hi : ((grid0.coords t) 1).val = j)
    (hf : ∀ (r : Fin 1024) (q : Fin 512), f r (512 * j + q.val) = if 512 * j + q.val < 32000 then
      Real.toEReal (plain (X 0 r) (X 1 r) fun k => (Y 2 : Vec Ideal S512x2560 .i8) (ix2 q k)) * σ r * (Y 3 : Vec Ideal S1x1x512 .f32) (ix3 0 0 q) else ⊥)
    (hl : Lanes c g f (4 * j)) :
    Lanes c (atC c t Y g hc1 hc2).1.2 f (4 * (j + 1)) := by
  subst hi
  have key := both_state X (fun q k => (Y 2 : Vec Ideal S512x2560 .i8) (ix2 q k)) σ (fun q => (Y 3 : Vec Ideal S1x1x512 .f32) (ix3 0 0 q)) f _ hj hf
      runC.sl.v65 lane_at
      (View.readAt (Elt Ideal) (Memref.whole cc0_scratch1).view (Rect.unit (s := S1024x128) ![0, 0] S512x128.size inb_S1024x128_S512x128_0_0).toLoadRect g.2.1)
      (View.readAt (Elt Ideal) (Memref.whole cc0_scratch2).view (Rect.unit (s := S1024x128) ![0, 0] S512x128.size inb_S1024x128_S512x128_0_0).toLoadRect g.2.2.1)
      (View.readAt (Elt Ideal) (Memref.whole cc0_scratch1).view (Rect.unit (s := S1024x128) ![512, 0] S512x128.size inb_S1024x128_S512x128_512_0).toLoadRect g.2.1)
      (View.readAt (Elt Ideal) (Memref.whole cc0_scratch2).view (Rect.unit (s := S1024x128) ![512, 0] S512x128.size inb_S1024x128_S512x128_512_0).toLoadRect g.2.2.1)
      (View.readAt (Elt Ideal) (Memref.whole cc0_scratch3).view (Rect.unit (s := S1024x128) ![0, 0] S512x128.size inb_S1024x128_S512x128_0_0).toLoadRect g.2.2.2)
      (View.readAt (Elt Ideal) (Memref.whole cc0_scratch3).view (Rect.unit (s := S1024x128) ![512, 0] S512x128.size inb_S1024x128_S512x128_512_0).toLoadRect g.2.2.2)
      (fun p l => (lane_rows c g 0 _ p l (up p) (Nat.zero_add _).symm).trans (hl (up p) l))
      (fun p l => (lane_rows c g 512 _ p l (dn p) rfl).trans (hl (dn p) l))
      (View.readAt (Elt Ideal) (st0_2 t).view (Rect.unit (s := S512x2560) ![0, 0] S256x2560.size inb_S512x2560_S256x2560_0_0).toLoadRect ((hstage0_2 ((cfg0.slots t 2).cast nbuf0_2)).unread (Y 2)))
      (View.readAt (Elt Ideal) (st0_2 t).view (Rect.unit (s := S512x2560) ![256, 0] S256x2560.size inb_S512x2560_S256x2560_256_0).toLoadRect ((hstage0_2 ((cfg0.slots t 2).cast nbuf0_2)).unread (Y 2)))
      (View.readAt (Elt Ideal) (Memref.whole cc0_scratch0).view (Rect.unit (s := S7x512x2560) ![0, 0, 0] S1x512x2560.size inb_S7x512x2560_S1x512x2560_0_0_0).toLoadRect g.1)
      (View.readAt (Elt Ideal) (Memref.whole cc0_scratch0).view (Rect.unit (s := S7x512x2560) ![1, 0, 0] S1x512x2560.size inb_S7x512x2560_S1x512x2560_1_0_0).toLoadRect g.1)
      (View.readAt (Elt Ideal) (Memref.whole cc0_scratch0).view (Rect.unit (s := S7x512x2560) ![2, 0, 0] S1x512x2560.size inb_S7x512x2560_S1x512x2560_2_0_0).toLoadRect g.1)
      (View.readAt (Elt Ideal) (Memref.whole cc0_scratch0).view (Rect.unit (s := S7x512x2560) ![3, 0, 0] S1x512x2560.size inb_S7x512x2560_S1x512x2560_3_0_0).toLoadRect g.1)
      (View.readAt (Elt Ideal) (Memref.whole cc0_scratch0).view (Rect.unit (s := S7x512x2560) ![4, 0, 0] S1x512x2560.size inb_S7x512x2560_S1x512x2560_4_0_0).toLoadRect g.1)
      (View.readAt (Elt Ideal) (Memref.whole cc0_scratch0).view (Rect.unit (s := S7x512x2560) ![5, 0, 0] S1x512x2560.size inb_S7x512x2560_S1x512x2560_5_0_0).toLoadRect g.1)
      (View.readAt (Elt Ideal) (Memref.whole cc0_scratch0).view (Rect.unit (s := S7x512x2560) ![6, 0, 0] S1x512x2560.size inb_S7x512x2560_S1x512x2560_6_0_0).toLoadRect g.1)
      (View.readAt (Elt Ideal) (st0_1 t).view (Rect.unit (s := S1024x128) ![0, 0] S512x128.size inb_S1024x128_S512x128_0_0).toLoadRect ((hstage0_1 ((cfg0.slots t 1).cast nbuf0_1)).unread (Y 1)))
      (View.readAt (Elt Ideal) (st0_1 t).view (Rect.unit (s := S1024x128) ![512, 0] S512x128.size inb_S1024x128_S512x128_512_0).toLoadRect ((hstage0_1 ((cfg0.slots t 1).cast nbuf0_1)).unread (Y 1)))
      (View.readAt (Elt Ideal) (st0_3 t).view (Rect.unit (s := S1x1x512) ![0, 0, 0] S1x1x128.size inb_S1x1x512_S1x1x128_0_0_0).toLoadRect ((hstage0_3 ((cfg0.slots t 3).cast nbuf0_3)).unread (Y 3)))
      (View.readAt (Elt Ideal) (st0_3 t).view (Rect.unit (s := S1x1x512) ![0, 0, 128] S1x1x128.size inb_S1x1x512_S1x1x128_0_0_128).toLoadRect ((hstage0_3 ((cfg0.slots t 3).cast nbuf0_3)).unread (Y 3)))
      (View.readAt (Elt Ideal) (st0_3 t).view (Rect.unit (s := S1x1x512) ![0, 0, 256] S1x1x128.size inb_S1x1x512_S1x1x128_0_0_256).toLoadRect ((hstage0_3 ((cfg0.slots t 3).cast nbuf0_3)).unread (Y 3)))
      (View.readAt (Elt Ideal) (st0_3 t).view (Rect.unit (s := S1x1x512) ![0, 0, 384] S1x1x128.size inb_S1x1x512_S1x1x128_0_0_384).toLoadRect ((hstage0_3 ((cfg0.slots t 3).cast nbuf0_3)).unread (Y 3)))
      (fun q k => load_at (st0_2 t) _ (Y 2) _ _ _ (idx2 0 0 _ q k _ k (Nat.zero_add _).symm (Nat.zero_add _).symm))
      (fun q k => load_at (st0_2 t) _ (Y 2) _ _ _ (idx2 256 0 _ q k _ k rfl (Nat.zero_add _).symm))
      (fun p k => (congrArg (View.read (Elt Ideal) (Memref.whole cc0_scratch0).view g.1) (idx3 0 0 0 _ 0 p k 0 p k rfl (Nat.zero_add _).symm (Nat.zero_add _).symm)).trans (hg 0 p k))
      (fun p k => (congrArg (View.read (Elt Ideal) (Memref.whole cc0_scratch0).view g.1) (idx3 1 0 0 _ 0 p k 1 p k rfl (Nat.zero_add _).symm (Nat.zero_add _).symm)).trans (hg 1 p k))
      (fun p k => (congrArg (View.read (Elt Ideal) (Memref.whole cc0_scratch0).view g.1) (idx3 2 0 0 _ 0 p k 2 p k rfl (Nat.zero_add _).symm (Nat.zero_add _).symm)).trans (hg 2 p k))
      (fun p k => (congrArg (View.read (Elt Ideal) (Memref.whole cc0_scratch0).view g.1) (idx3 3 0 0 _ 0 p k 3 p k rfl (Nat.zero_add _).symm (Nat.zero_add _).symm)).trans (hg 3 p k))
      (fun p k => (congrArg (View.read (Elt Ideal) (Memref.whole cc0_scratch0).view g.1) (idx3 4 0 0 _ 0 p k 4 p k rfl (Nat.zero_add _).symm (Nat.zero_add _).symm)).trans (hg 4 p k))
      (fun p k => (congrArg (View.read (Elt Ideal) (Memref.whole cc0_scratch0).view g.1) (idx3 5 0 0 _ 0 p k 5 p k rfl (Nat.zero_add _).symm (Nat.zero_add _).symm)).trans (hg 5 p k))
      (fun p k => (congrArg (View.read (Elt Ideal) (Memref.whole cc0_scratch0).view g.1) (idx3 6 0 0 _ 0 p k 6 p k rfl (Nat.zero_add _).symm (Nat.zero_add _).symm)).trans (hg 6 p k))
      (fun p l => (load_at (st0_1 t) _ (Y 1) _ _ _ (idx2 0 0 _ p l (up p) l (Nat.zero_add _).symm (Nat.zero_add _).symm)).trans (hσ _ _))
      (fun p l => (load_at (st0_1 t) _ (Y 1) _ _ _ (idx2 512 0 _ p l (dn p) l rfl (Nat.zero_add _).symm)).trans (hσ _ _))
      (fun l => load_at (st0_3 t) _ (Y 3) _ _ _ (idx3 0 0 0 _ 0 0 l 0 0 _ rfl rfl rfl))
      (fun l => load_at (st0_3 t) _ (Y 3) _ _ _ (idx3 0 0 128 _ 0 0 l 0 0 _ rfl rfl rfl))
      (fun l => load_at (st0_3 t) _ (Y 3) _ _ _ (idx3 0 0 256 _ 0 0 l 0 0 _ rfl rfl rfl))
      (fun l => load_at (st0_3 t) _ (Y 3) _ _ _ (idx3 0 0 384 _ 0 0 l 0 0 _ rfl rfl rfl))
      (runC.sl.r_5 c (st0_2 t) ((hstage0_2 ((cfg0.slots t 2).cast nbuf0_2)).unread (Y 2)) g.1) (runC.sl.r_6 c (st0_2 t) ((hstage0_2 ((cfg0.slots t 2).cast nbuf0_2)).unread (Y 2)) g.1) (runC.sl.r_7 c (st0_2 t) ((hstage0_2 ((cfg0.slots t 2).cast nbuf0_2)).unread (Y 2)) g.1) (runC.sl.r_8 c (st0_2 t) ((hstage0_2 ((cfg0.slots t 2).cast nbuf0_2)).unread (Y 2)) g.1) rfl rfl rfl rfl
  intro r l
  refine best_ext ?_ ?_ ?_
  · unfold atC runC
    dsimp only
    unfold runC.sl.G1_2
    refine rows_two (e := .f32) _ _ _ _ [] _ _ (fun r l => (state (f r) l.val (4 * (((grid0.coords t) 1).val + 1))).1) ?_ ?_ r l
    · intro p l
      have e := congrArg (fun z : Best => z.1) (key.1 p l)
      dsimp only [upBest] at e
      dsimp only [runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.v102, runC.sl.v170, runC.sl.v171, runC.sl.v172]
      exact e
    · intro p l
      have e := congrArg (fun z : Best => z.1) (key.2 p l)
      dsimp only [loBest] at e
      dsimp only [runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.v102, runC.sl.v170, runC.sl.v171, runC.sl.v172]
      exact e
  · unfold atC runC
    dsimp only
    unfold runC.sl.G2_2
    refine rows_two (e := .f32) _ _ _ _ [] _ _ (fun r l => (state (f r) l.val (4 * (((grid0.coords t) 1).val + 1))).2.1) ?_ ?_ r l
    · intro p l
      have e := congrArg (fun z : Best => z.2.1) (key.1 p l)
      dsimp only [upSecond] at e
      dsimp only [runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.v102, runC.sl.v170, runC.sl.v171, runC.sl.v172]
      exact e
    · intro p l
      have e := congrArg (fun z : Best => z.2.1) (key.2 p l)
      dsimp only [loSecond] at e
      dsimp only [runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.v102, runC.sl.v170, runC.sl.v171, runC.sl.v172]
      exact e
  · unfold atC runC
    dsimp only
    unfold runC.sl.G3_2
    refine rows_two (e := .i32) _ _ _ _ [] _ _ (fun r l => (state (f r) l.val (4 * (((grid0.coords t) 1).val + 1))).2.2) ?_ ?_ r l
    · intro p l
      have e := congrArg (fun z : Best => z.2.2) (key.1 p l)
      dsimp only [upIndex] at e
      dsimp only [runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.v102, runC.sl.v170, runC.sl.v171, runC.sl.v172]
      exact e
    · intro p l
      have e := congrArg (fun z : Best => z.2.2) (key.2 p l)
      dsimp only [loIndex] at e
      dsimp only [runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.v102, runC.sl.v170, runC.sl.v171, runC.sl.v172]
      exact e

end Cert.Value

end
-- ==== Proof.Value.Rows.lean ====
/-
  Reductions along the rows of a matrix, and what a last column block stores of
  each row: the greatest, its first column and the margin over the runner-up.
-/
module

public import proofs.«01_k».proof.Proof.Value.Pieces
public import proofs.«01_k».proof.Proof.Value.Lanes

@[expose] public section

set_option maxRecDepth 16384

noncomputable section

namespace Cert.Value

open Idealize.ShloMosaic Idealize.ShloMosaic.TcCoe
open Cert.KernelIdeal Cert.KernelIdeal.Gen

/-- The entry a row and a column name. -/
theorem lift_row {M N : ℕ} (h : (⟨2, ![M, N]⟩ : Shape).Reduces [1] ⟨1, ![M]⟩) (p : Fin M) (q : Fin N) :
    h.lift (ix1 p) q = (ix2 p q : (⟨2, ![M, N]⟩ : Shape).Idx) := by
  funext a
  match a with
  | ⟨0, _⟩ => rfl
  | ⟨1, _⟩ => rfl

/-- The greatest of each row. -/
theorem row_max {M N : ℕ} (Z : FVec Ideal ⟨2, ![M, N]⟩ .f32) (h : (⟨2, ![M, N]⟩ : Shape).Reduces [1] ⟨1, ![M]⟩) (h1) (h2) (p : Fin M) :
    multiReduction .maximumf [1] ⟨1, ![M]⟩ Z 0xFF800000#32 h h1 h2 (ix1 p) = Finset.univ.fold max (⊥ : EReal) fun q : Fin N => Z (ix2 p q) := by
  refine (Ideal.multiReduction_maximumf_single Z _ h h1 h2 (ix1 p)).trans ?_
  refine Finset.fold_congr (f := Z ∘ h.lift (ix1 p)) (g := fun q : Fin N => Z (ix2 p q)) fun q _ => ?_
  exact congrArg Z (lift_row h p q)

/-- The least of each row. -/
theorem row_min {M N : ℕ} (Z : IVec ⟨2, ![M, N]⟩ 32) (h : (⟨2, ![M, N]⟩ : Shape).Reduces [1] ⟨1, ![M]⟩) (h2) (p : Fin M) :
    multiReductionI .minsi [1] ⟨1, ![M]⟩ Z 2147483647#32 h h2 (ix1 p) = Finset.univ.fold IKind.minsi.op 2147483647#32 fun q : Fin N => Z (ix2 p q) := by
  refine (multiReductionI_eq_fold .minsi Z _ h h2 (ix1 p)).trans ((h.fold_filter_drop_single _ _ Z (ix1 p)).trans ?_)
  refine Finset.fold_congr (f := Z ∘ h.lift (ix1 p)) (g := fun q : Fin N => Z (ix2 p q)) fun q _ => ?_
  exact congrArg Z (lift_row h p q)

/-- A choice by a decided bit. -/
theorem by_bit {α : Type} (P : Prop) (i j : Decidable P) (a b : α) : Scalar.select (BitVec.ofBool (@decide P i)) a b = @ite α P j a b := by
  by_cases h : P
  · rw [if_pos h, @decide_eq_true P i h]; rfl
  · rw [if_neg h, @decide_eq_false P i h]; rfl

/-- A choice by a comparison. -/
theorem by_equal {α : Type} (x y : BitVec 32) (a b : α) : Scalar.select (IntOp.cmpi .eq x y) a b = if x = y then a else b := by
  by_cases h : x = y
  · subst h
    rw [if_pos rfl]
    simp [IntOp.cmpi, Scalar.select]
  · rw [if_neg h]
    show (if BitVec.ofBool (x == y) = 1#1 then a else b) = b
    rw [beq_eq_false_iff_ne.mpr h]
    rfl

section
variable (b s : Vec Ideal S1024x128 .f32) (x : Vec Ideal S1024x128 .i32) (r : Fin 1024)

/-- A row's lanes. -/
def laneRow (l : Fin 128) : Best := (b (ix2 r l), s (ix2 r l), x (ix2 r l))

theorem top_stored : k0_pay4 (F := Ideal) b (ix2 r 0) = topL (laneRow b s x r) := by
  unfold topL laneRow k0_pay4
  exact (cast_col _ shapeCasts_S1024_S1024x1 r).trans (row_max (M := 1024) (N := 128) b reduces_S1024x128_S1024 (.inl rfl) rfl r)

theorem cand_stored (l : Fin 128) : k0_pay5 (F := Ideal) b x (ix2 r l) = candL (laneRow b s x r) l := by
  have e : broadcastTo S1024x128 (k0_pay4 (F := Ideal) b) broadcasts_S1024x1_S1024x128 (ix2 r l) = topL (laneRow b s x r) :=
    (repeat_col (M := 1024) (N := 128) (by decide) _ broadcasts_S1024x1_S1024x128 r l).trans (top_stored b s x r)
  unfold candL
  rw [← e]
  exact by_bit (b (ix2 r l) = broadcastTo S1024x128 (k0_pay4 (F := Ideal) b) broadcasts_S1024x1_S1024x128 (ix2 r l)) _ _ (x (ix2 r l)) 2147483647#32

theorem tok_stored : k0_pay6 (F := Ideal) b x (ix2 r 0) = tokL (laneRow b s x r) := by
  unfold tokL k0_pay6
  refine (cast_col _ shapeCasts_S1024_S1024x1 r).trans ((row_min (M := 1024) (N := 128) _ reduces_S1024x128_S1024 rfl r).trans ?_)
  exact Finset.fold_congr fun l _ => cand_stored b s x r l

theorem margin_stored : k0_pay7 (F := Ideal) b s x (ix2 r 0) = topL (laneRow b s x r) - runnerL (laneRow b s x r) := by
  have e0 : k0_pay7 (F := Ideal) b s x (ix2 r 0) = k0_pay4 (F := Ideal) b (ix2 r 0)
      - (shapeCast S1024x1 (multiReduction .maximumf [1] S1024 (select (cmpi .eq (k0_pay5 (F := Ideal) b x)
          (broadcastTo S1024x128 (k0_pay6 (F := Ideal) b x) broadcasts_S1024x1_S1024x128)) s b : FVec Ideal S1024x128 .f32)
          0xFF800000#32 reduces_S1024x128_S1024 (.inl rfl) rfl) shapeCasts_S1024_S1024x1 : FVec Ideal S1024x1 .f32) (ix2 r 0) := by
    unfold k0_pay7
    rfl
  rw [e0, top_stored b s x r, cast_col _ shapeCasts_S1024_S1024x1 r,
    row_max (M := 1024) (N := 128) _ reduces_S1024x128_S1024 (.inl rfl) rfl r]
  refine congrArg (fun a : EReal => topL (laneRow b s x r) - a) ?_
  unfold runnerL
  refine congrArg (fun f : Fin 128 → EReal => Finset.univ.fold max ⊥ f) (funext fun l => ?_)
  have e : broadcastTo S1024x128 (k0_pay6 (F := Ideal) b x) broadcasts_S1024x1_S1024x128 (ix2 r l) = tokL (laneRow b s x r) :=
    (repeat_col (M := 1024) (N := 128) (by decide) _ broadcasts_S1024x1_S1024x128 r l).trans (tok_stored b s x r)
  rw [← e, ← cand_stored]
  exact by_equal (k0_pay5 (F := Ideal) b x (ix2 r l)) (broadcastTo S1024x128 (k0_pay6 (F := Ideal) b x) broadcasts_S1024x1_S1024x128 (ix2 r l)) (s (ix2 r l)) (b (ix2 r l))

end

end Cert.Value

end
-- ==== Proof.Value.Ends.lean ====
/-
  What a grid point of the head call leaves in its three columns' windows: a
  last column block reduces the lanes.
-/
module

public import proofs.«01_k».proof.Proof.Value.Last
public import proofs.«01_k».proof.Proof.Value.Rows

@[expose] public section

set_option maxRecDepth 16384
set_option maxHeartbeats 1000000

noncomputable section

namespace Cert.Value

open Idealize.ShloMosaic Idealize.ShloMosaic.TcCoe
open Cert.KernelIdeal Cert.KernelIdeal.Gen Cert.KernelIdeal.Body

section
variable {sig : RefSig} {κ : Kind} {sp : Space} {e : EltTy}

/-- A store over a whole [1024, 1] window. -/
theorem column_at (v : View sig κ sp S1024x1 e) (g : v.ty.Contents (Elt Ideal)) (inb : ∀ a, (![0, 0] : Fin 2 → ℕ) a + S1024x1.size a ≤ S1024x1.size a)
    (w : S1024x1.Idx → Elt Ideal e) (L : List (View.Piece (Elt Ideal) S1024x1 e)) (r : Fin 1024) :
    v.read (Elt Ideal) (v.writes (Elt Ideal) g ((⟨Rect.unit (s := S1024x1) ![0, 0] S1024x1.size inb, w⟩ : View.Piece (Elt Ideal) S1024x1 e) :: L)) (ix2 r 0) = w (ix2 r 0) :=
  View.read_writes_cons_unit_of_mem v g inb w L (ix2 r 0) (ix2 r 0) rfl fun a => by
    match a with
    | ⟨0, _⟩ => exact (Nat.zero_add _).symm
    | ⟨1, _⟩ => rfl

end

variable (c : Dev nD) (t : Fin cfg0.N) (Y : (w : Fin cfg0.W) → (cfg0.win w).block.Idx → Elt Ideal (cfg0.win w).elt) (g : Scr (F := Ideal) c)
  (X : Fin 2 → Fin 1024 → Fin 2560 → ℝ) (σ : Fin 1024 → EReal)

theorem final1 (hc1 hc2) (r : Fin 1024) (l : Fin 128) :
    ((runC.sl.v273 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1) : Vec Ideal S1024x128 .f32) (ix2 r l)
      = (Memref.whole cc0_scratch1).view.read (Elt Ideal) (atC c t Y g hc1 hc2).1.2.2.1 (ix2 r l) := by
  unfold atC runC
  dsimp only
  unfold runC.sl.v273 View.readCov
  exact congrArg (View.read (Elt Ideal) (Memref.whole cc0_scratch1).view ((Memref.whole cc0_scratch1).view.writes (Elt Ideal) (Memref.whole cc0_scratch1).view.junk _)) (idx2 0 0 _ r l r l (Nat.zero_add _).symm (Nat.zero_add _).symm)

theorem final2 (hc1 hc2) (r : Fin 1024) (l : Fin 128) :
    ((runC.sl.v274 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.1) : Vec Ideal S1024x128 .f32) (ix2 r l)
      = (Memref.whole cc0_scratch2).view.read (Elt Ideal) (atC c t Y g hc1 hc2).1.2.2.2.1 (ix2 r l) := by
  unfold atC runC
  dsimp only
  unfold runC.sl.v274 View.readCov
  exact congrArg (View.read (Elt Ideal) (Memref.whole cc0_scratch2).view ((Memref.whole cc0_scratch2).view.writes (Elt Ideal) (Memref.whole cc0_scratch2).view.junk _)) (idx2 0 0 _ r l r l (Nat.zero_add _).symm (Nat.zero_add _).symm)

theorem final3 (hc1 hc2) (r : Fin 1024) (l : Fin 128) :
    ((runC.sl.v275 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.2) : Vec Ideal S1024x128 .i32) (ix2 r l)
      = (Memref.whole cc0_scratch3).view.read (Elt Ideal) (atC c t Y g hc1 hc2).1.2.2.2.2 (ix2 r l) := by
  unfold atC runC
  dsimp only
  unfold runC.sl.v275 View.readCov
  exact congrArg (View.read (Elt Ideal) (Memref.whole cc0_scratch3).view ((Memref.whole cc0_scratch3).view.writes (Elt Ideal) (Memref.whole cc0_scratch3).view.junk _)) (idx2 0 0 _ r l r l (Nat.zero_add _).symm (Nat.zero_add _).symm)

/-- The lanes a last column block reduces. -/
theorem lanes_read (hc1 : ¬ Scalar.cmpi .ne (Scalar.extui (Scalar.cmpi .eq (BitVec.ofNat 32 ((grid0.coords t) 1).val) 0#32) : BitVec 32) 0#32 = 1#1)
    (hc2 : k0_cond2 (grid0.coords t) = 1#1) (hσ : ∀ (r : Fin 1024) (l : Fin 128), (Y 1 : Vec Ideal S1024x128 .f32) (ix2 r l) = σ r) (hg : Held c g X)
    (f : Fin 1024 → ℕ → EReal) (j : ℕ) (hj : j < 63) (hi : ((grid0.coords t) 1).val = j)
    (hf : ∀ (r : Fin 1024) (q : Fin 512), f r (512 * j + q.val) = if 512 * j + q.val < 32000 then
      Real.toEReal (plain (X 0 r) (X 1 r) fun k => (Y 2 : Vec Ideal S512x2560 .i8) (ix2 q k)) * σ r * (Y 3 : Vec Ideal S1x1x512 .f32) (ix3 0 0 q) else ⊥)
    (hl : Lanes c g f (4 * j)) (r : Fin 1024) :
    laneRow (runC.sl.v273 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1) (runC.sl.v274 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.1) (runC.sl.v275 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.2) r = fun l : Fin 128 => state (f r) l.val (4 * (j + 1)) :=
  funext fun l => (best_ext (final1 c t Y g hc1 hc2 r l) (final2 c t Y g hc1 hc2 r l) (final3 c t Y g hc1 hc2 r l)
    : _ = (((Memref.whole cc0_scratch1).view.read (Elt Ideal) (atC c t Y g hc1 hc2).1.2.2.1 (ix2 r l),
      (Memref.whole cc0_scratch2).view.read (Elt Ideal) (atC c t Y g hc1 hc2).1.2.2.2.1 (ix2 r l),
      (Memref.whole cc0_scratch3).view.read (Elt Ideal) (atC c t Y g hc1 hc2).1.2.2.2.2 (ix2 r l)) : Best)).trans
    (lanesC c t Y g X σ hc1 hc2 hσ hg f j hj hi hf hl r l)

/-- The tok a last column block leaves. -/
theorem tok_left (hc1 hc2) (hσ : ∀ (r : Fin 1024) (l : Fin 128), (Y 1 : Vec Ideal S1024x128 .f32) (ix2 r l) = σ r) (hg : Held c g X)
    (f : Fin 1024 → ℕ → EReal) (j : ℕ) (hj : j < 63) (hi : ((grid0.coords t) 1).val = j)
    (hf : ∀ (r : Fin 1024) (q : Fin 512), f r (512 * j + q.val) = if 512 * j + q.val < 32000 then
      Real.toEReal (plain (X 0 r) (X 1 r) fun k => (Y 2 : Vec Ideal S512x2560 .i8) (ix2 q k)) * σ r * (Y 3 : Vec Ideal S1x1x512 .f32) (ix3 0 0 q) else ⊥)
    (hl : Lanes c g f (4 * j)) (r : Fin 1024) :
    (left c Y (atC c t Y g hc1 hc2).1 5 : Vec Ideal S1024x1 .i32) (ix2 r 0) = tokL (fun l : Fin 128 => state (f r) l.val (4 * (j + 1))) := by
  rw [← lanes_read c t Y g X σ hc1 hc2 hσ hg f j hj hi hf hl r]
  refine Eq.trans ?_ (tok_stored (runC.sl.v273 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1) (runC.sl.v274 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.1) (runC.sl.v275 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.2) r)
  show (st0_5 t).view.read (Elt Ideal) (atC c t Y g hc1 hc2).1.1.2.1 (ix2 r 0) = _
  unfold atC runC
  dsimp only
  unfold runC.sl.H5_1
  exact column_at (e := .i32) (st0_5 t).view _ _ _ _ r

/-- The margin a last column block leaves. -/
theorem margin_left (hc1 hc2) (hσ : ∀ (r : Fin 1024) (l : Fin 128), (Y 1 : Vec Ideal S1024x128 .f32) (ix2 r l) = σ r) (hg : Held c g X)
    (f : Fin 1024 → ℕ → EReal) (j : ℕ) (hj : j < 63) (hi : ((grid0.coords t) 1).val = j)
    (hf : ∀ (r : Fin 1024) (q : Fin 512), f r (512 * j + q.val) = if 512 * j + q.val < 32000 then
      Real.toEReal (plain (X 0 r) (X 1 r) fun k => (Y 2 : Vec Ideal S512x2560 .i8) (ix2 q k)) * σ r * (Y 3 : Vec Ideal S1x1x512 .f32) (ix3 0 0 q) else ⊥)
    (hl : Lanes c g f (4 * j)) (r : Fin 1024) :
    (left c Y (atC c t Y g hc1 hc2).1 6 : Vec Ideal S1024x1 .f32) (ix2 r 0) = topL (fun l : Fin 128 => state (f r) l.val (4 * (j + 1))) - runnerL (fun l : Fin 128 => state (f r) l.val (4 * (j + 1))) := by
  rw [← lanes_read c t Y g X σ hc1 hc2 hσ hg f j hj hi hf hl r]
  refine Eq.trans ?_ (margin_stored (runC.sl.v273 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1) (runC.sl.v274 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.1) (runC.sl.v275 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.2) r)
  show (st0_6 t).view.read (Elt Ideal) (atC c t Y g hc1 hc2).1.1.2.2.1 (ix2 r 0) = _
  unfold atC runC
  dsimp only
  unfold runC.sl.H6_1
  exact column_at (e := .f32) (st0_6 t).view _ _ _ _ r

/-- The top a last column block leaves. -/
theorem top_left (hc1 hc2) (hσ : ∀ (r : Fin 1024) (l : Fin 128), (Y 1 : Vec Ideal S1024x128 .f32) (ix2 r l) = σ r) (hg : Held c g X)
    (f : Fin 1024 → ℕ → EReal) (j : ℕ) (hj : j < 63) (hi : ((grid0.coords t) 1).val = j)
    (hf : ∀ (r : Fin 1024) (q : Fin 512), f r (512 * j + q.val) = if 512 * j + q.val < 32000 then
      Real.toEReal (plain (X 0 r) (X 1 r) fun k => (Y 2 : Vec Ideal S512x2560 .i8) (ix2 q k)) * σ r * (Y 3 : Vec Ideal S1x1x512 .f32) (ix3 0 0 q) else ⊥)
    (hl : Lanes c g f (4 * j)) (r : Fin 1024) :
    (left c Y (atC c t Y g hc1 hc2).1 7 : Vec Ideal S1024x1 .f32) (ix2 r 0) = topL (fun l : Fin 128 => state (f r) l.val (4 * (j + 1))) := by
  rw [← lanes_read c t Y g X σ hc1 hc2 hσ hg f j hj hi hf hl r]
  refine Eq.trans ?_ (top_stored (runC.sl.v273 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1) (runC.sl.v274 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.1) (runC.sl.v275 c (grid0.coords t) (st0_1 t) (st0_2 t) (st0_3 t) ((hstage0_1 ((cfg0.slots t 1).cast nbuf0_1)).unread (Y 1)) ((hstage0_2 ((cfg0.slots t 2).cast nbuf0_2)).unread (Y 2)) ((hstage0_3 ((cfg0.slots t 3).cast nbuf0_3)).unread (Y 3)) g.1 g.2.1 g.2.2.2) r)
  show (st0_7 t).view.read (Elt Ideal) (atC c t Y g hc1 hc2).1.1.2.2.2 (ix2 r 0) = _
  unfold atC runC
  dsimp only
  unfold runC.sl.H7_1
  exact column_at (e := .f32) (st0_7 t).view _ _ _ _ r

end Cert.Value

end
-- ==== Proof.Value.Call.lean ====
/-
  What the head call leaves in its arrays: at every row and column the sum of the
  two products of the fields with the two halves of the weight bytes, scaled by
  the row and the column; and of every row of these logits the greatest, the
  first column where it stands and its margin over the greatest elsewhere.
-/
module

public import proofs.«01_k».proof.Proof.Value.Blocks
public import proofs.«01_k».proof.Proof.Value.First
public import proofs.«01_k».proof.Proof.Value.Ends

@[expose] public section

set_option maxRecDepth 16384

noncomputable section

namespace Cert.Value

open Idealize.ShloMosaic Idealize.ShloMosaic.TcCoe
open Cert.KernelIdeal Cert.KernelIdeal.Gen Cert.KernelIdeal.Body
open Idealize.ShloMosaic.Pipeline (RDat)

/-- One logit, of the four arguments. -/
def logit (fields : Vec Ideal S2x5120x2560 .i8) (scale : Vec Ideal S5120 .f32) (w : Vec Ideal S32000x2560 .i8) (ws : Vec Ideal S32000 .f32)
    (row : Fin 5120) (col : Fin 32000) : EReal :=
  Real.toEReal (plain (fun k => code (fields (ix3 0 row k))) (fun k => code (fields (ix3 1 row k))) fun k => w (ix2 col k))
    * scale (ix1 row) * ws (ix1 col)

/-- The row that a block's row is. -/
def rowOf (t : Fin cfg0.N) (r : Fin 1024) : Fin 5120 := ⟨1024 * (t.val / 63) + r.val, by have := point_lt t; omega⟩

variable (m : (ℓ : Loc nD τ sig) → Buf (Elt Ideal) ℓ) (c : Dev nD)

/-- The four arguments as launched. -/
abbrev fieldsOf : Vec Ideal S2x5120x2560 .i8 := m ((c : Thread nD τ).loc main_arg0)
abbrev scaleOf : Vec Ideal S5120 .f32 := m ((c : Thread nD τ).loc main_arg1)
abbrev weightsOf : Vec Ideal S32000x2560 .i8 := m ((c : Thread nD τ).loc main_arg2)
abbrev colScaleOf : Vec Ideal S32000 .f32 := m ((c : Thread nD τ).loc main_arg3)

/-- The codes of a point's row block. -/
def codes (t : Fin cfg0.N) (h : Fin 2) (r : Fin 1024) (k : Fin 2560) : ℝ := code (fieldsOf m c (ix3 h (rowOf t r) k))

/-- The logits of a row. -/
def logitRow (row : Fin 5120) (col : Fin 32000) : EReal := logit (fieldsOf m c) (scaleOf m c) (weightsOf m c) (colScaleOf m c) row col

/-- What the body leaves in the windows: in that of the row scale the scale of the row block, in that of the logits the
    logits of the row block and the column block, as far as it lies in the array, and in the three columns, at a last column
    block, each row's token, margin and greatest logit. -/
def left' : (w : Fin cfg0.W) → Fin cfg0.N → (Y X : (cfg0.win w).block.Idx → Elt Ideal (cfg0.win w).elt) → Prop
  | ⟨1, _⟩ => fun t _ X => ∀ (r : Fin 1024) (l : Fin 128), (X : Vec Ideal S1024x128 .f32) (ix2 r l) = scaleOf m c (ix1 (rowOf t r))
  | ⟨4, _⟩ => fun t _ X => ∀ (r : Fin 1024) (q : Fin 512) (col : Fin 32000), col.val = 512 * (t.val % 63) + q.val →
      (X : Vec Ideal S1024x1x512 .f32) (ix3 r 0 q)
        = logit (fieldsOf m c) (scaleOf m c) (weightsOf m c) (colScaleOf m c) (rowOf t r) col
  | ⟨0, _⟩ => fun _ _ _ => True
  | ⟨2, _⟩ => fun _ _ _ => True
  | ⟨3, _⟩ => fun _ _ _ => True
  | ⟨5, _⟩ => fun t _ X => t.val % 63 = 62 → ∀ r : Fin 1024, (X : Vec Ideal S1024x1 .i32) (ix2 r 0) = tok (logitRow m c (rowOf t r))
  | ⟨6, _⟩ => fun t _ X => t.val % 63 = 62 → ∀ r : Fin 1024,
      (X : Vec Ideal S1024x1 .f32) (ix2 r 0) = top (logitRow m c (rowOf t r)) - runner (logitRow m c (rowOf t r))
  | ⟨7, _⟩ => fun t _ X => t.val % 63 = 62 → ∀ r : Fin 1024, (X : Vec Ideal S1024x1 .f32) (ix2 r 0) = top (logitRow m c (rowOf t r))

/-- A row block's logits by column number. -/
def rowsAt (t : Fin cfg0.N) (r : Fin 1024) : ℕ → EReal := rowf (logitRow m c (rowOf t r))

/-- After a point the scratch buffer of the field combinations holds those of the point's row block, and the lanes' the two
    best of the columns so far. -/
def inv (t : Fin (cfg0.N + 1)) (g : Scr (F := Ideal) c) : Prop :=
  ∀ u : Fin cfg0.N, u.val + 1 = t.val → Held c g (codes m c u) ∧ Lanes c g (rowsAt m c u) (4 * (u.val % 63 + 1))

/-- The first control word is set at the first column blocks. -/
theorem first_iff (t : Fin cfg0.N) :
    Scalar.cmpi .ne (Scalar.extui (Scalar.cmpi .eq (BitVec.ofNat 32 ((grid0.coords t) 1).val) 0#32) : BitVec 32) 0#32 = 1#1 ↔ t.val % 63 = 0 := by
  rw [col_block t]
  have hv : t.val % 63 < 63 := Nat.mod_lt _ (by decide)
  generalize t.val % 63 = v at hv
  revert v
  decide +kernel

/-- The second control word is set at the last column blocks. -/
theorem last_iff (t : Fin cfg0.N) : k0_cond2 (grid0.coords t) = 1#1 ↔ t.val % 63 = 62 := by
  show Scalar.cmpi .ne (Scalar.extui (Scalar.cmpi .eq (BitVec.ofNat 32 ((grid0.coords t) 1).val) 62#32) : BitVec 32) 0#32 = 1#1 ↔ _
  rw [col_block t]
  have hv : t.val % 63 < 63 := Nat.mod_lt _ (by decide)
  generalize t.val % 63 = v at hv
  revert v
  decide +kernel

/-- The row block of the point before, off the first column block. -/
theorem before (t u : Fin cfg0.N) (ht : t.val % 63 ≠ 0) (h : u.val + 1 = t.val) (r : Fin 1024) : rowOf u r = rowOf t r :=
  Fin.ext (by show 1024 * (u.val / 63) + r.val = 1024 * (t.val / 63) + r.val; omega)

/-- The row scale the body finds, at every point. -/
theorem scale_found (t : Fin cfg0.N) (X : Vec Ideal S1024x128 .f32) (hX : (datOf m (left' m) (inv m) c).Finds 1 t X)
    (r : Fin 1024) (l : Fin 128) : X (ix2 r l) = scaleOf m c (ix1 (rowOf t r)) := by
  by_cases ht : t.val % 63 = 0
  · exact finds1 m (left' m) (inv m) c t ht X hX r l (rowOf t r) rfl
  · have hf : (cfg0.win 1).fetch t = false := Bool.eq_false_iff.mpr fun h => ht ((fetch0_1 t).mp h)
    have h0 : t.val ≠ 0 := fun h => ht (by rw [h])
    rcases ((datOf m (left' m) (inv m) c).finds_of_pos hf h0 X).mp hX with h | ⟨Y, _, h⟩
    · exact absurd h Bool.false_ne_true
    · have e := h r l
      rwa [before t ⟨t.val - 1, Nat.lt_of_le_of_lt (Nat.sub_le _ _) t.isLt⟩ ht (by show t.val - 1 + 1 = t.val; omega) r] at e

/-- A logit from the block's row and column. -/
theorem logit_of (t : Fin cfg0.N) (Y : (w : Fin cfg0.W) → (cfg0.win w).block.Idx → Elt Ideal (cfg0.win w).elt)
    (hY : ∀ w, (datOf m (left' m) (inv m) c).Finds w t (Y w)) (Z : Vec Ideal S1024x1x512 .f32)
    (h : ∀ (r : Fin 1024) (q : Fin 512), Z (ix3 r 0 q)
      = Real.toEReal (plain (codes m c t 0 r) (codes m c t 1 r) fun k => (Y 2 : Vec Ideal S512x2560 .i8) (ix2 q k))
        * scaleOf m c (ix1 (rowOf t r)) * (Y 3 : Vec Ideal S1x1x512 .f32) (ix3 0 0 q)) :
    left' m c 4 t (Y 4) Z := by
  intro r q col hc
  rw [h r q, finds3 m (left' m) (inv m) c t (Y 3) (hY 3) q col hc,
    show (fun k => (Y 2 : Vec Ideal S512x2560 .i8) (ix2 q k)) = fun k => weightsOf m c (ix2 col k) from
      funext fun k => finds2 m (left' m) (inv m) c t (Y 2) (hY 2) q k col hc]
  rfl

/-- A row's logits from the block's row and column. -/
theorem rows_of (t : Fin cfg0.N) (Y : (w : Fin cfg0.W) → (cfg0.win w).block.Idx → Elt Ideal (cfg0.win w).elt)
    (hY : ∀ w, (datOf m (left' m) (inv m) c).Finds w t (Y w)) (r : Fin 1024) (q : Fin 512) :
    rowsAt m c t r (512 * (t.val % 63) + q.val) = if 512 * (t.val % 63) + q.val < 32000 then
      Real.toEReal (plain (codes m c t 0 r) (codes m c t 1 r) fun k => (Y 2 : Vec Ideal S512x2560 .i8) (ix2 q k))
        * scaleOf m c (ix1 (rowOf t r)) * (Y 3 : Vec Ideal S1x1x512 .f32) (ix3 0 0 q) else ⊥ := by
  by_cases h : 512 * (t.val % 63) + q.val < 32000
  · rw [if_pos h, finds3 m (left' m) (inv m) c t (Y 3) (hY 3) q ⟨_, h⟩ rfl,
      show (fun k => (Y 2 : Vec Ideal S512x2560 .i8) (ix2 q k)) = fun k => weightsOf m c (ix2 ⟨_, h⟩ k) from
        funext fun k => finds2 m (left' m) (inv m) c t (Y 2) (hY 2) q k ⟨_, h⟩ rfl]
    exact rowf_of (logitRow m c (rowOf t r)) ⟨_, h⟩ _ rfl
  · rw [if_neg h]
    exact dif_neg h

/-- A finished row's lanes. -/
theorem lanes_of (g : Fin 32000 → EReal) (n : ℕ) (h : n = 252) : (fun l : Fin 128 => state (rowf g) l.val n) = lanes g := by
  subst h
  rfl

/-- What a run leaves is as the relation asks, if the logits are, and at a last column block the three columns. -/
theorem left_ok (t : Fin cfg0.N) (Y : (w : Fin cfg0.W) → (cfg0.win w).block.Idx → Elt Ideal (cfg0.win w).elt)
    (hY : ∀ w, (datOf m (left' m) (inv m) c).Finds w t (Y w)) (W : Out (F := Ideal) c t)
    (h : left' m c 4 t (Y 4) (left c Y W 4)) (h5 : left' m c 5 t (Y 5) (left c Y W 5)) (h6 : left' m c 6 t (Y 6) (left c Y W 6))
    (h7 : left' m c 7 t (Y 7) (left c Y W 7)) : ∀ w, left' m c w t (Y w) (left c Y W w)
  | ⟨0, _⟩ => trivial
  | ⟨1, _⟩ => fun r l => scale_found m c t (Y 1) (hY 1) r l
  | ⟨2, _⟩ => trivial
  | ⟨3, _⟩ => trivial
  | ⟨4, _⟩ => h
  | ⟨5, _⟩ => h5
  | ⟨6, _⟩ => h6
  | ⟨7, _⟩ => h7

/-- Off the first column block the scratch holds the row block's combinations and lanes already. -/
theorem held_before (t : Fin cfg0.N) (ht : t.val % 63 ≠ 0) (g : Scr (F := Ideal) c) (hg : inv m c t.castSucc g) :
    Held c g (codes m c t) ∧ Lanes c g (rowsAt m c t) (4 * (t.val % 63)) := by
  have h0 : t.val ≠ 0 := fun h => ht (by rw [h])
  have hu : (⟨t.val - 1, Nat.lt_of_le_of_lt (Nat.sub_le _ _) t.isLt⟩ : Fin cfg0.N).val + 1 = t.val := by show t.val - 1 + 1 = t.val; omega
  have h := hg ⟨t.val - 1, Nat.lt_of_le_of_lt (Nat.sub_le _ _) t.isLt⟩ hu
  have e : codes m c ⟨t.val - 1, Nat.lt_of_le_of_lt (Nat.sub_le _ _) t.isLt⟩ = codes m c t := by
    funext h r k
    unfold codes
    rw [before t ⟨t.val - 1, Nat.lt_of_le_of_lt (Nat.sub_le _ _) t.isLt⟩ ht hu r]
  have e' : rowsAt m c ⟨t.val - 1, Nat.lt_of_le_of_lt (Nat.sub_le _ _) t.isLt⟩ = rowsAt m c t := by
    funext r
    unfold rowsAt
    rw [before t ⟨t.val - 1, Nat.lt_of_le_of_lt (Nat.sub_le _ _) t.isLt⟩ ht hu r]
  have n : (t.val - 1) % 63 + 1 = t.val % 63 := by omega
  rw [e, e'] at h
  exact ⟨h.1, n ▸ h.2⟩

/-- The next invariant, from what the point's scratch holds. -/
theorem inv_succ (t : Fin cfg0.N) (g : Scr (F := Ideal) c) (h : Held c g (codes m c t)) (h' : Lanes c g (rowsAt m c t) (4 * (t.val % 63 + 1))) :
    inv m c t.succ g := by
  intro u hu
  have e : u = t := Fin.ext (by have : u.val + 1 = t.val + 1 := hu; omega)
  rw [e]
  exact ⟨h, h'⟩

end Cert.Value

end
-- ==== Proof.Value.Columns.lean ====
/-
  Where the head call's three columns lie in their arrays, and when they are
  written back.
-/
module

public import proofs.«01_k».proof.Proof.Value.Blocks

@[expose] public section

set_option maxRecDepth 16384

noncomputable section

namespace Cert.Value

open Idealize.ShloMosaic Idealize.ShloMosaic.TcCoe
open Cert.KernelIdeal Cert.KernelIdeal.Gen Cert.KernelIdeal.Body

/-- The blocks of the tokens, -/
theorem at5 : ∀ t : Fin cfg0.N, win0_5.index t (0 : Fin 2) = t.val / 63 ∧ win0_5.index t (1 : Fin 2) = 0 :=
  (by decide +kernel : ∀ t : Fin grid0.N, win0_5.index t (0 : Fin 2) = t.val / 63 ∧ win0_5.index t (1 : Fin 2) = 0)

/-- written back at the last column blocks, -/
theorem flush5_at : ∀ t : Fin cfg0.N, (cfg0.win 5).flush t = true → t.val % 63 = 62 :=
  (by decide +kernel : ∀ t : Fin grid0.N, (cfg0.win 5).flush t = true → t.val % 63 = 62)

/-- cover its array. -/
theorem covers5 : (cfg0.win 5).Covers := by decide +kernel

/-- The blocks of the margins, -/
theorem at6 : ∀ t : Fin cfg0.N, win0_6.index t (0 : Fin 2) = t.val / 63 ∧ win0_6.index t (1 : Fin 2) = 0 :=
  (by decide +kernel : ∀ t : Fin grid0.N, win0_6.index t (0 : Fin 2) = t.val / 63 ∧ win0_6.index t (1 : Fin 2) = 0)

/-- written back at the last column blocks, -/
theorem flush6_at : ∀ t : Fin cfg0.N, (cfg0.win 6).flush t = true → t.val % 63 = 62 :=
  (by decide +kernel : ∀ t : Fin grid0.N, (cfg0.win 6).flush t = true → t.val % 63 = 62)

/-- cover its array. -/
theorem covers6 : (cfg0.win 6).Covers := by decide +kernel

/-- The blocks of the greatest logits, -/
theorem at7 : ∀ t : Fin cfg0.N, win0_7.index t (0 : Fin 2) = t.val / 63 ∧ win0_7.index t (1 : Fin 2) = 0 :=
  (by decide +kernel : ∀ t : Fin grid0.N, win0_7.index t (0 : Fin 2) = t.val / 63 ∧ win0_7.index t (1 : Fin 2) = 0)

/-- written back at the last column blocks, -/
theorem flush7_at : ∀ t : Fin cfg0.N, (cfg0.win 7).flush t = true → t.val % 63 = 62 :=
  (by decide +kernel : ∀ t : Fin grid0.N, (cfg0.win 7).flush t = true → t.val % 63 = 62)

/-- cover its array. -/
theorem covers7 : (cfg0.win 7).Covers := by decide +kernel

end Cert.Value

end
-- ==== Proof.Value.Logits.lean ====
/-
  The head call's body obligation over what it must leave in the windows, and the
  run of the program: the array of the logits ends at the logits of the arguments,
  and the three columns at their rows' tokens, margins and greatest.
-/
module

public import proofs.«01_k».proof.Proof.Value.Call
public import proofs.«01_k».proof.Proof.Value.Columns

@[expose] public section

set_option maxRecDepth 16384

noncomputable section

namespace Cert.Value

open Idealize.ShloMosaic Idealize.ShloMosaic.TcCoe
open Cert.KernelIdeal Cert.KernelIdeal.Gen Cert.KernelIdeal.Body
open Idealize.ShloMosaic.Pipeline (RDat)
open Idealize.SL Idealize.SL.Sem

variable (m : (ℓ : Loc nD τ sig) → Buf (Elt Ideal) ℓ) (ρ : Dev nD → PrngReg) (c : Dev nD)

/-- The fields found at a first column block are the row block's codes. -/
theorem codes_found (t : Fin cfg0.N) (ht : t.val % 63 = 0) (X : Vec Ideal S2x1024x2560 .i8) (hX : (datOf m (left' m) (inv m) c).Finds 0 t X)
    (h : Fin 2) (r : Fin 1024) (k : Fin 2560) : code (X (ix3 h r k)) = codes m c t h r k :=
  congrArg code (finds0 m (left' m) (inv m) c t ht X hX h r k (rowOf t r) rfl)

/-- The column block is in range. -/
theorem col_lt (t : Fin cfg0.N) : t.val % 63 < 63 := Nat.mod_lt _ (by decide)

/-- At a first column block: -/
theorem ok_first (t : Fin cfg0.N) (Y : (w : Fin cfg0.W) → (cfg0.win w).block.Idx → Elt Ideal (cfg0.win w).elt) (g : Scr (F := Ideal) c)
    (hY : ∀ w, (datOf m (left' m) (inv m) c).Finds w t (Y w)) (hg : inv m c t.castSucc g) (hc1 hc2) :
    Ok (left' m c) c (inv m c) t Y (atA c t Y g hc1 hc2).1 :=
  have ht := (first_iff t).mp hc1
  have hX := codes_found m c t ht (Y 0) (hY 0)
  have hn : t.val % 63 ≠ 62 := by omega
  ⟨left_ok m c t Y hY _ (logit_of m c t Y hY _ (outA c t Y g (codes m c t) (fun r => scaleOf m c (ix1 (rowOf t r))) hc1 hc2
      (scale_found m c t (Y 1) (hY 1)) hX)) (fun h => absurd h hn) (fun h => absurd h hn) (fun h => absurd h hn),
    inv_succ m c t _ (heldA c t Y g (codes m c t) hc1 hc2 hX)
      (lanesA c t Y g (codes m c t) (fun r => scaleOf m c (ix1 (rowOf t r))) hc1 hc2 (scale_found m c t (Y 1) (hY 1)) hX
        (rowsAt m c t) (t.val % 63) (col_lt t) (col_block t) (rows_of m c t Y hY) ht)⟩

/-- at a middle column block, -/
theorem ok_middle (t : Fin cfg0.N) (Y : (w : Fin cfg0.W) → (cfg0.win w).block.Idx → Elt Ideal (cfg0.win w).elt) (g : Scr (F := Ideal) c)
    (hY : ∀ w, (datOf m (left' m) (inv m) c).Finds w t (Y w)) (hg : inv m c t.castSucc g) (hc1 hc2) :
    Ok (left' m c) c (inv m c) t Y (atB c t Y g hc1 hc2).1 :=
  have hH := held_before m c t (fun h => hc1 ((first_iff t).mpr h)) g hg
  have hn : t.val % 63 ≠ 62 := fun h => hc2 ((last_iff t).mpr h)
  ⟨left_ok m c t Y hY _ (logit_of m c t Y hY _ (outB c t Y g (codes m c t) (fun r => scaleOf m c (ix1 (rowOf t r))) hc1 hc2
      (scale_found m c t (Y 1) (hY 1)) hH.1)) (fun h => absurd h hn) (fun h => absurd h hn) (fun h => absurd h hn),
    inv_succ m c t _ (by unfold Held; rw [keptB]; exact hH.1)
      (lanesB c t Y g (codes m c t) (fun r => scaleOf m c (ix1 (rowOf t r))) hc1 hc2 (scale_found m c t (Y 1) (hY 1)) hH.1
        (rowsAt m c t) (t.val % 63) (col_lt t) (col_block t) (rows_of m c t Y hY) hH.2)⟩

/-- and at a last one. -/
theorem ok_last (t : Fin cfg0.N) (Y : (w : Fin cfg0.W) → (cfg0.win w).block.Idx → Elt Ideal (cfg0.win w).elt) (g : Scr (F := Ideal) c)
    (hY : ∀ w, (datOf m (left' m) (inv m) c).Finds w t (Y w)) (hg : inv m c t.castSucc g) (hc1 hc2) :
    Ok (left' m c) c (inv m c) t Y (atC c t Y g hc1 hc2).1 :=
  have hH := held_before m c t (fun h => hc1 ((first_iff t).mpr h)) g hg
  have hn : 4 * (t.val % 63 + 1) = 252 := by have := (last_iff t).mp hc2; omega
  have hs := scale_found m c t (Y 1) (hY 1)
  have hr := rows_of m c t Y hY
  have hl : ∀ r : Fin 1024, (fun l : Fin 128 => state (rowsAt m c t r) l.val (4 * (t.val % 63 + 1))) = lanes (logitRow m c (rowOf t r)) :=
    fun r => lanes_of (logitRow m c (rowOf t r)) _ hn
  ⟨left_ok m c t Y hY _ (logit_of m c t Y hY _ (outC c t Y g (codes m c t) (fun r => scaleOf m c (ix1 (rowOf t r))) hc1 hc2 hs hH.1))
      (fun _ r => by
        refine (tok_left c t Y g (codes m c t) (fun r => scaleOf m c (ix1 (rowOf t r))) hc1 hc2 hs hH.1 (rowsAt m c t) (t.val % 63) (col_lt t) (col_block t) hr hH.2 r).trans ?_
        rw [hl r, tokL_eq])
      (fun _ r => by
        refine (margin_left c t Y g (codes m c t) (fun r => scaleOf m c (ix1 (rowOf t r))) hc1 hc2 hs hH.1 (rowsAt m c t) (t.val % 63) (col_lt t) (col_block t) hr hH.2 r).trans ?_
        rw [hl r, topL_eq, runnerL_eq])
      (fun _ r => by
        refine (top_left c t Y g (codes m c t) (fun r => scaleOf m c (ix1 (rowOf t r))) hc1 hc2 hs hH.1 (rowsAt m c t) (t.val % 63) (col_lt t) (col_block t) hr hH.2 r).trans ?_
        rw [hl r, topL_eq]),
    inv_succ m c t _ (by unfold Held; rw [keptC]; exact hH.1)
      (lanesC c t Y g (codes m c t) (fun r => scaleOf m c (ix1 (rowOf t r))) hc1 hc2 hs hH.1
        (rowsAt m c t) (t.val % 63) (col_lt t) (col_block t) hr hH.2)⟩

/-- The array of the logits of the four arguments. -/
def logits (fields : Vec Ideal S2x5120x2560 .i8) (scale : Vec Ideal S5120 .f32) (w : Vec Ideal S32000x2560 .i8) (ws : Vec Ideal S32000 .f32) :
    Vec Ideal S5000x1x32000 .f32 :=
  fun i => logit fields scale w ws ⟨(i 0).val, Nat.lt_of_lt_of_le (i 0).isLt (by decide)⟩ (i 2)

/-- The column of the tokens. -/
def tokens (fields : Vec Ideal S2x5120x2560 .i8) (scale : Vec Ideal S5120 .f32) (w : Vec Ideal S32000x2560 .i8) (ws : Vec Ideal S32000 .f32) :
    Vec Ideal S5000x1 .i32 :=
  fun i => tok (fun col => logit fields scale w ws ⟨(i 0).val, Nat.lt_of_lt_of_le (i 0).isLt (by decide)⟩ col)

/-- The column of the margins. -/
def margins (fields : Vec Ideal S2x5120x2560 .i8) (scale : Vec Ideal S5120 .f32) (w : Vec Ideal S32000x2560 .i8) (ws : Vec Ideal S32000 .f32) :
    Vec Ideal S5000x1 .f32 :=
  fun i => top (fun col => logit fields scale w ws ⟨(i 0).val, Nat.lt_of_lt_of_le (i 0).isLt (by decide)⟩ col) - runner (fun col => logit fields scale w ws ⟨(i 0).val, Nat.lt_of_lt_of_le (i 0).isLt (by decide)⟩ col)

/-- The column of the tops. -/
def tops (fields : Vec Ideal S2x5120x2560 .i8) (scale : Vec Ideal S5120 .f32) (w : Vec Ideal S32000x2560 .i8) (ws : Vec Ideal S32000 .f32) :
    Vec Ideal S5000x1 .f32 :=
  fun i => top (fun col => logit fields scale w ws ⟨(i 0).val, Nat.lt_of_lt_of_le (i 0).isLt (by decide)⟩ col)

/-- What the region leaves in the array of the logits. -/
theorem logits_of_post (r : PUnit × MemSt nD τ sig (Elt Ideal)) (h : RDat.FramePost cfg0 (datOf m (left' m) (inv m)) (Gen.V m) r) :
    r.2.mem ((c : Thread nD τ).loc main_v4_0) = logits (fieldsOf m c) (scaleOf m c) (weightsOf m c) (colScaleOf m c) := by
  obtain ⟨after, hL, hA⟩ := h.exists_exact c
  refine (hA 4).trans (Pipeline.Dat.arrAt_eq_of_covers _ 4 _ covers4 ?_)
  intro t hf y
  obtain ⟨Z, _, hZ⟩ := hL 4 t hf
  obtain ⟨e0, e1, e2⟩ := at4 t
  have b0 : (((cfg0.win 4).blk t).view.emb y (0 : Fin 3)).val = 1024 * (t.val / 63) + (y (0 : Fin 3)).val := by
    show win0_4.index t (0 : Fin 3) * 1024 + 1 * (y (0 : Fin 3)).val = _; omega
  have b2 : (((cfg0.win 4).blk t).view.emb y (2 : Fin 3)).val = 512 * (t.val % 63) + (y (2 : Fin 3)).val := by
    show win0_4.index t (2 : Fin 3) * 512 + 1 * (y (2 : Fin 3)).val = _; omega
  have l0 : (y (0 : Fin 3)).val < 1024 := ((cfg0.win 4).xinj (grid0.coords t) y (0 : Fin 3)).isLt
  have l1 : (y (1 : Fin 3)).val < 1 := ((cfg0.win 4).xinj (grid0.coords t) y (1 : Fin 3)).isLt
  have l2 : (y (2 : Fin 3)).val < 512 := ((cfg0.win 4).xinj (grid0.coords t) y (2 : Fin 3)).isLt
  have hy : (cfg0.win 4).xinj (grid0.coords t) y = (ix3 (⟨(y (0 : Fin 3)).val, l0⟩ : Fin 1024) (0 : Fin 1) (⟨(y (2 : Fin 3)).val, l2⟩ : Fin 512) : S1024x1x512.Idx) := by
    funext a
    match a with
    | ⟨0, _⟩ => rfl
    | ⟨1, _⟩ => exact Fin.ext (show (y (1 : Fin 3)).val = 0 by omega)
    | ⟨2, _⟩ => rfl
  show after 4 t ((cfg0.win 4).xinj (grid0.coords t) y) = _
  rw [hy]
  refine (hZ ⟨(y (0 : Fin 3)).val, l0⟩ ⟨(y (2 : Fin 3)).val, l2⟩ (((cfg0.win 4).blk t).view.emb y (2 : Fin 3)) b2).trans ?_
  exact congrArg (fun row => logit (fieldsOf m c) (scaleOf m c) (weightsOf m c) (colScaleOf m c) row (((cfg0.win 4).blk t).view.emb y (2 : Fin 3)))
    (Fin.ext b0.symm)

/-- What the region leaves in the array of the tokens. -/
theorem tokens_of_post (r : PUnit × MemSt nD τ sig (Elt Ideal)) (h : RDat.FramePost cfg0 (datOf m (left' m) (inv m)) (Gen.V m) r) :
    r.2.mem ((c : Thread nD τ).loc main_v4_1) = tokens (fieldsOf m c) (scaleOf m c) (weightsOf m c) (colScaleOf m c) := by
  obtain ⟨after, hL, hA⟩ := h.exists_exact c
  refine (hA 5).trans (Pipeline.Dat.arrAt_eq_of_covers _ 5 _ covers5 ?_)
  intro t hf y
  obtain ⟨Z, _, hZ⟩ := hL 5 t hf
  obtain ⟨e0, e1⟩ := at5 t
  have b0 : (((cfg0.win 5).blk t).view.emb y (0 : Fin 2)).val = 1024 * (t.val / 63) + (y (0 : Fin 2)).val := by
    show win0_5.index t (0 : Fin 2) * 1024 + 1 * (y (0 : Fin 2)).val = _; omega
  have l0 : (y (0 : Fin 2)).val < 1024 := ((cfg0.win 5).xinj (grid0.coords t) y (0 : Fin 2)).isLt
  have l1 : (y (1 : Fin 2)).val < 1 := ((cfg0.win 5).xinj (grid0.coords t) y (1 : Fin 2)).isLt
  have hy : (cfg0.win 5).xinj (grid0.coords t) y = (ix2 (⟨(y (0 : Fin 2)).val, l0⟩ : Fin 1024) (0 : Fin 1) : S1024x1.Idx) := by
    funext a
    match a with
    | ⟨0, _⟩ => rfl
    | ⟨1, _⟩ => exact Fin.ext (show (y (1 : Fin 2)).val = 0 by omega)
  show after 5 t ((cfg0.win 5).xinj (grid0.coords t) y) = _
  rw [hy]
  refine (hZ (flush5_at t hf) ⟨(y (0 : Fin 2)).val, l0⟩).trans ?_
  exact congrArg (fun row => tok (logitRow m c row)) (Fin.ext b0.symm)

/-- What the region leaves in the array of the margins. -/
theorem margins_of_post (r : PUnit × MemSt nD τ sig (Elt Ideal)) (h : RDat.FramePost cfg0 (datOf m (left' m) (inv m)) (Gen.V m) r) :
    r.2.mem ((c : Thread nD τ).loc main_v4_2) = margins (fieldsOf m c) (scaleOf m c) (weightsOf m c) (colScaleOf m c) := by
  obtain ⟨after, hL, hA⟩ := h.exists_exact c
  refine (hA 6).trans (Pipeline.Dat.arrAt_eq_of_covers _ 6 _ covers6 ?_)
  intro t hf y
  obtain ⟨Z, _, hZ⟩ := hL 6 t hf
  obtain ⟨e0, e1⟩ := at6 t
  have b0 : (((cfg0.win 6).blk t).view.emb y (0 : Fin 2)).val = 1024 * (t.val / 63) + (y (0 : Fin 2)).val := by
    show win0_6.index t (0 : Fin 2) * 1024 + 1 * (y (0 : Fin 2)).val = _; omega
  have l0 : (y (0 : Fin 2)).val < 1024 := ((cfg0.win 6).xinj (grid0.coords t) y (0 : Fin 2)).isLt
  have l1 : (y (1 : Fin 2)).val < 1 := ((cfg0.win 6).xinj (grid0.coords t) y (1 : Fin 2)).isLt
  have hy : (cfg0.win 6).xinj (grid0.coords t) y = (ix2 (⟨(y (0 : Fin 2)).val, l0⟩ : Fin 1024) (0 : Fin 1) : S1024x1.Idx) := by
    funext a
    match a with
    | ⟨0, _⟩ => rfl
    | ⟨1, _⟩ => exact Fin.ext (show (y (1 : Fin 2)).val = 0 by omega)
  show after 6 t ((cfg0.win 6).xinj (grid0.coords t) y) = _
  rw [hy]
  refine (hZ (flush6_at t hf) ⟨(y (0 : Fin 2)).val, l0⟩).trans ?_
  exact congrArg (fun row => top (logitRow m c row) - runner (logitRow m c row)) (Fin.ext b0.symm)

/-- What the region leaves in the array of the tops. -/
theorem tops_of_post (r : PUnit × MemSt nD τ sig (Elt Ideal)) (h : RDat.FramePost cfg0 (datOf m (left' m) (inv m)) (Gen.V m) r) :
    r.2.mem ((c : Thread nD τ).loc main_v4_3) = tops (fieldsOf m c) (scaleOf m c) (weightsOf m c) (colScaleOf m c) := by
  obtain ⟨after, hL, hA⟩ := h.exists_exact c
  refine (hA 7).trans (Pipeline.Dat.arrAt_eq_of_covers _ 7 _ covers7 ?_)
  intro t hf y
  obtain ⟨Z, _, hZ⟩ := hL 7 t hf
  obtain ⟨e0, e1⟩ := at7 t
  have b0 : (((cfg0.win 7).blk t).view.emb y (0 : Fin 2)).val = 1024 * (t.val / 63) + (y (0 : Fin 2)).val := by
    show win0_7.index t (0 : Fin 2) * 1024 + 1 * (y (0 : Fin 2)).val = _; omega
  have l0 : (y (0 : Fin 2)).val < 1024 := ((cfg0.win 7).xinj (grid0.coords t) y (0 : Fin 2)).isLt
  have l1 : (y (1 : Fin 2)).val < 1 := ((cfg0.win 7).xinj (grid0.coords t) y (1 : Fin 2)).isLt
  have hy : (cfg0.win 7).xinj (grid0.coords t) y = (ix2 (⟨(y (0 : Fin 2)).val, l0⟩ : Fin 1024) (0 : Fin 1) : S1024x1.Idx) := by
    funext a
    match a with
    | ⟨0, _⟩ => rfl
    | ⟨1, _⟩ => exact Fin.ext (show (y (1 : Fin 2)).val = 0 by omega)
  show after 7 t ((cfg0.win 7).xinj (grid0.coords t) y) = _
  rw [hy]
  refine (hZ (flush7_at t hf) ⟨(y (0 : Fin 2)).val, l0⟩).trans ?_
  exact congrArg (fun row => top (logitRow m c row)) (Fin.ext b0.symm)

/-- THE RUN of the program over the extended reals. -/
theorem run : θ_run defs (onTc (τ := τ) (main (F := Ideal))) ⟨m, fun _ => 0, ρ⟩ fun r => ∀ c : Dev nD,
      r.2.mem ((c : Thread nD τ).loc main_v4_0) = logits (fieldsOf m c) (scaleOf m c) (weightsOf m c) (colScaleOf m c)
      ∧ r.2.mem ((c : Thread nD τ).loc main_v4_1) = tokens (fieldsOf m c) (scaleOf m c) (weightsOf m c) (colScaleOf m c)
      ∧ r.2.mem ((c : Thread nD τ).loc main_v4_2) = margins (fieldsOf m c) (scaleOf m c) (weightsOf m c) (colScaleOf m c)
      ∧ r.2.mem ((c : Thread nD τ).loc main_v4_3) = tops (fieldsOf m c) (scaleOf m c) (weightsOf m c) (colScaleOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨logits_of_post m c r h.1, tokens_of_post m c r h.1, margins_of_post m c r h.1, tops_of_post m c r h.1, args_of_post m (left' m) (inv m) r h.1 c⟩)
    (run_program m ρ (left' m) (inv m) (fun c g u hu => absurd hu (Nat.succ_ne_zero _))
      fun c => body_obligation _ _ c _ (fun t Y g hY hg => ok_first m c t Y g hY hg) (fun t Y g hY hg => ok_middle m c t Y g hY hg)
        (fun t Y g hY hg => ok_last m c t Y g hY hg))

end Cert.Value

end
-- ==== Proof.Value.Plain.lean ====
/-
  The greatest entry of each row of a matrix of any size, the first column where it
  stands and its margin over the greatest elsewhere, as the reference writes them.
-/
module

public import proofs.«01_k».proof.Proof.Value.Rows

@[expose] public section

noncomputable section

namespace Cert.Value

open Idealize.ShloMosaic Idealize.ShloMosaic.TcCoe

/-- The greatest of a row, -/
def rowTop {N : ℕ} (g : Fin N → EReal) : EReal := Finset.univ.fold max ⊥ g
/-- the first column where it stands, -/
def rowTok {N : ℕ} (g : Fin N → EReal) : BitVec 32 :=
  Finset.univ.fold (IKind.minsi.op) 2147483647#32 fun q => if g q = rowTop g then BitVec.ofNat 32 q.val else 2147483647#32
/-- and the greatest off that column. -/
def rowRunner {N : ℕ} (g : Fin N → EReal) : EReal :=
  Finset.univ.fold max ⊥ fun q => if BitVec.ofNat 32 q.val = rowTok g then ⊥ else g q

theorem top_row (g : Fin 32000 → EReal) : rowTop g = top g := by unfold rowTop top; rfl
theorem tok_row (g : Fin 32000 → EReal) : rowTok g = tok g := by unfold rowTok tok; rw [top_row]
theorem runner_row (g : Fin 32000 → EReal) : rowRunner g = runner g := by unfold rowRunner runner; rw [tok_row]

section
variable {M N : ℕ} (X : FVec Ideal ⟨2, ![M, N]⟩ .f32) (hr : (⟨2, ![M, N]⟩ : Shape).Reduces [1] ⟨1, ![M]⟩)
  (hc : (⟨1, ![M]⟩ : Shape).ShapeCasts ⟨2, ![M, 1]⟩) (hb : (⟨2, ![M, 1]⟩ : Shape).Broadcasts ⟨2, ![M, N]⟩)
  (hi : (⟨2, ![M, N]⟩ : Shape).Iotas .tc 32 [1])

/-- The greatest of each row, -/
def matTop : FVec Ideal ⟨2, ![M, 1]⟩ .f32 :=
  shapeCast ⟨2, ![M, 1]⟩ (multiReduction .maximumf [1] ⟨1, ![M]⟩ X 0xFF800000#32 hr (.inl rfl) rfl) hc

/-- the first column of each, -/
def matTok : IVec ⟨2, ![M, 1]⟩ 32 :=
  shapeCast ⟨2, ![M, 1]⟩ (multiReductionI .minsi [1] ⟨1, ![M]⟩
    (select (cmpf .oeq X (broadcastTo ⟨2, ![M, N]⟩ (matTop X hr hc) hb)) (iota .tc ⟨2, ![M, N]⟩ 32 [1] hi)
      (broadcast ⟨2, ![M, N]⟩ 2147483647#32) : IVec ⟨2, ![M, N]⟩ 32) 2147483647#32 hr rfl) hc

/-- the matrix without those, -/
def matOff : FVec Ideal ⟨2, ![M, N]⟩ .f32 :=
  select (cmpi .eq (iota .tc ⟨2, ![M, N]⟩ 32 [1] hi) (broadcastTo ⟨2, ![M, N]⟩ (matTok X hr hc hb hi) hb))
    (broadcast ⟨2, ![M, N]⟩ (Scalar.ofBits .f32 0xFF800000#32)) X

/-- and the margin. -/
def matMargin : FVec Ideal ⟨2, ![M, 1]⟩ .f32 :=
  subf (matTop X hr hc) (matTop (matOff X hr hc hb hi) hr hc)

theorem col_at (p : Fin M) (q : Fin N) : iota .tc ⟨2, ![M, N]⟩ 32 [1] hi (ix2 p q) = BitVec.ofNat 32 q.val := by
  show BitVec.ofNat 32 (0 * N + q.val) = _
  rw [Nat.zero_mul, Nat.zero_add]

theorem matTop_at (p : Fin M) : matTop X hr hc (ix2 p 0) = rowTop fun q => X (ix2 p q) := by
  unfold matTop rowTop
  exact (cast_col _ hc p).trans (row_max X hr _ _ p)

theorem matTok_at (hM : M ≠ 1) (p : Fin M) : matTok X hr hc hb hi (ix2 p 0) = rowTok fun q => X (ix2 p q) := by
  unfold matTok rowTok
  refine (cast_col _ hc p).trans ((row_min _ hr rfl p).trans ?_)
  refine Finset.fold_congr fun q _ => ?_
  have e : broadcastTo ⟨2, ![M, N]⟩ (matTop X hr hc) hb (ix2 p q) = rowTop fun q => X (ix2 p q) :=
    (repeat_col hM _ hb p q).trans (matTop_at X hr hc p)
  rw [← e, ← col_at hi p q]
  exact by_bit (X (ix2 p q) = broadcastTo ⟨2, ![M, N]⟩ (matTop X hr hc) hb (ix2 p q)) _ _
    (iota .tc ⟨2, ![M, N]⟩ 32 [1] hi (ix2 p q)) 2147483647#32

theorem matOff_at (hM : M ≠ 1) (p : Fin M) (q : Fin N) : matOff X hr hc hb hi (ix2 p q)
    = if BitVec.ofNat 32 q.val = rowTok (fun q => X (ix2 p q)) then ⊥ else X (ix2 p q) := by
  have e : broadcastTo ⟨2, ![M, N]⟩ (matTok X hr hc hb hi) hb (ix2 p q) = rowTok fun q => X (ix2 p q) :=
    (repeat_col hM _ hb p q).trans (matTok_at X hr hc hb hi hM p)
  rw [← e, ← col_at hi p q]
  have z : (Scalar.ofBits .f32 0xFF800000#32 : Ideal .f32) = (⊥ : EReal) := rfl
  unfold matOff
  rw [← z]
  exact by_equal (iota .tc ⟨2, ![M, N]⟩ 32 [1] hi (ix2 p q)) (broadcastTo ⟨2, ![M, N]⟩ (matTok X hr hc hb hi) hb (ix2 p q))
    (Scalar.ofBits .f32 0xFF800000#32 : Ideal .f32) (X (ix2 p q))

theorem matMargin_at (hM : M ≠ 1) (p : Fin M) : matMargin X hr hc hb hi (ix2 p 0)
    = rowTop (fun q => X (ix2 p q)) - rowRunner fun q => X (ix2 p q) := by
  show matTop X hr hc (ix2 p 0) - matTop (matOff X hr hc hb hi) hr hc (ix2 p 0) = _
  rw [matTop_at, matTop_at]
  refine congrArg (fun a : EReal => rowTop (fun q => X (ix2 p q)) - a) ?_
  unfold rowRunner
  rw [rowTop]
  exact Finset.fold_congr fun q _ => matOff_at X hr hc hb hi hM p q

end

end Cert.Value

end
-- ==== Proof.Value.Reference.lean ====
/-
  The reference's results, entry by entry: the same logit of the four arguments,
  and the same token, margin and greatest logit of each row.
-/
module

public import proofs.«01_k».proof.Proof.Value.Logits
public import proofs.«01_k».proof.Proof.Value.Run
public import proofs.«01_k».proof.Proof.Value.Plain

@[expose] public section

set_option maxRecDepth 16384

noncomputable section

namespace Cert.Value

open Idealize.ShloMosaic Idealize.ShloMosaic.TcCoe
open Cert.ReferenceIdeal Cert.ReferenceIdeal.Gen

variable (v0 v3 : Vec Ideal S1x5000x2560 .i8) (v6 : Vec Ideal S32000x2560 .i8) (v21 : Vec Ideal S5000 .f32) (v25 : Vec Ideal S32000 .f32)

/-- The codes as the reference multiplies them, -/
def refCodes (v : Vec Ideal S1x5000x2560 .i8) : FVec Ideal S5000x2560 .bf16 :=
  sitofp .bf16 (shapeCast S5000x2560 v shapeCasts_S1x5000x2560_S5000x2560 : IVec S5000x2560 8)

/-- the low halves of the weights, -/
def refLo (v : Vec Ideal S32000x2560 .i8) : FVec Ideal S32000x2560 .bf16 :=
  subf (uitofp .bf16 (andi v (broadcast S32000x2560 15#8) : IVec S32000x2560 8)) (broadcast S32000x2560 (Scalar.ofBits .bf16 0x4100#16))

/-- and the high halves. -/
def refHi (v : Vec Ideal S32000x2560 .i8) : FVec Ideal S32000x2560 .bf16 :=
  subf (uitofp .bf16 (trunci 8 (shrsi (extui 32 v natLt_8_32) (broadcast S32000x2560 4#32)) natLt_8_32 : IVec S32000x2560 8))
    (broadcast S32000x2560 (Scalar.ofBits .bf16 0x4100#16))

theorem refCodes_at (v : Vec Ideal S1x5000x2560 .i8) (p : Fin 5000) (k : Fin 2560) :
    refCodes v (ix2 p k) = Real.toEReal (code (v (ix3 0 p k))) :=
  congrArg (fun b => Real.toEReal (code b)) (cast_drop v shapeCasts_S1x5000x2560_S5000x2560 p k)

theorem refLo_at (v : Vec Ideal S32000x2560 .i8) (q : Fin 32000) (k : Fin 2560) :
    refLo v (ix2 q k) = Real.toEReal (lo (v (ix2 q k))) := lo_sub _

theorem refHi_at (v : Vec Ideal S32000x2560 .i8) (q : Fin 32000) (k : Fin 2560) :
    refHi v (ix2 q k) = Real.toEReal (hi (v (ix2 q k))) := hi_sub _

/-- One of the reference's two products. -/
def refProd (x : FVec Ideal S5000x2560 .bf16) (y : FVec Ideal S32000x2560 .bf16) : FVec Ideal S5000x32000 .f32 :=
  matmul dot_S5000x2560_S32000x2560_S5000x32000_1_1_0_0_n_n none x y (constant S5000x32000 .f32 0x00000000#32)

theorem refProd_at (x : FVec Ideal S5000x2560 .bf16) (y : FVec Ideal S32000x2560 .bf16) (p : Fin 5000) (q : Fin 32000)
    (X Y : Fin 2560 → ℝ) (hx : ∀ k, x (ix2 p k) = Real.toEReal (X k)) (hy : ∀ k, y (ix2 q k) = Real.toEReal (Y k)) :
    refProd x y (ix2 p q) = Real.toEReal (∑ k, X k * Y k) :=
  product_coe (M := 5000) (K := 2560) (N := 32000) x y p q X Y hx hy

/-- The reference's logits in those terms. -/
theorem ref_pay : k0_pay3 (F := Ideal) v0 v3 v6 v21 v25
    = mulf (mulf (addf (refProd (refCodes v0) (refLo v6)) (refProd (refCodes v3) (refHi v6)))
        (broadcastTo S5000x32000 (shapeCast S5000x1 v21 shapeCasts_S5000_S5000x1 : FVec Ideal S5000x1 .f32) broadcasts_S5000x1_S5000x32000))
        (broadcastTo S5000x32000 (shapeCast S1x32000 v25 shapeCasts_S32000_S1x32000 : FVec Ideal S1x32000 .f32) broadcasts_S1x32000_S5000x32000) := by
  unfold k0_pay3 refProd refCodes refLo refHi
  rfl

/-- A logit of the reference. -/
theorem ref_pay_at (p : Fin 5000) (q : Fin 32000) : k0_pay3 (F := Ideal) v0 v3 v6 v21 v25 (ix2 p q)
    = Real.toEReal (plain (fun k => code (v0 (ix3 0 p k))) (fun k => code (v3 (ix3 0 p k))) fun k => v6 (ix2 q k)) * v21 (ix1 p) * v25 (ix1 q) := by
  rw [ref_pay]
  refine (congrArg₂ (fun a b : EReal => a * b) (congrArg₂ (fun a b : EReal => a * b) (congrArg₂ (fun a b : EReal => a + b)
    (refProd_at _ _ p q _ _ (refCodes_at v0 p) (refLo_at v6 q)) (refProd_at _ _ p q _ _ (refCodes_at v3 p) (refHi_at v6 q)))
    ((repeat_col (by decide) _ broadcasts_S5000x1_S5000x32000 p q).trans (cast_col v21 shapeCasts_S5000_S5000x1 p)))
    ((repeat_row (by decide) _ broadcasts_S1x32000_S5000x32000 p q).trans (cast_row v25 shapeCasts_S32000_S1x32000 q))).trans ?_
  unfold plain
  rw [EReal.coe_add]

/-- The reference's logits of a row. -/
def refRow (p : Fin 5000) (q : Fin 32000) : EReal := k0_pay3 (F := Ideal) v0 v3 v6 v21 v25 (ix2 p q)

theorem refRow_at (p : Fin 5000) (q : Fin 32000) : k0_pay3 (F := Ideal) v0 v3 v6 v21 v25 (ix2 p q) = refRow v0 v3 v6 v21 v25 p q := by
  rw [refRow]

theorem refRow_fun (p : Fin 5000) : (fun q : Fin 32000 => k0_pay3 (F := Ideal) v0 v3 v6 v21 v25 (ix2 p q)) = refRow v0 v3 v6 v21 v25 p :=
  funext fun q => refRow_at v0 v3 v6 v21 v25 p q

/-- The three columns in the words for any matrix. -/
theorem pay4_eq : k0_pay4 (F := Ideal) v0 v3 v6 v21 v25
    = matTop (M := 5000) (N := 32000) (k0_pay3 (F := Ideal) v0 v3 v6 v21 v25) reduces_S5000x32000_S5000 shapeCasts_S5000_S5000x1 := by
  unfold k0_pay4 matTop
  rfl

theorem pay5_eq : k0_pay5 (F := Ideal) v0 v3 v6 v21 v25
    = matTok (M := 5000) (N := 32000) (k0_pay3 (F := Ideal) v0 v3 v6 v21 v25) reduces_S5000x32000_S5000 shapeCasts_S5000_S5000x1
        broadcasts_S5000x1_S5000x32000 iota_S5000x32000_d1_w32 := by
  unfold k0_pay5 matTok
  rw [pay4_eq]

theorem pay2_eq : k0_pay2 (F := Ideal) (k0_pay3 v0 v3 v6 v21 v25) (k0_pay4 v0 v3 v6 v21 v25) (k0_pay6 v0 v3 v6 v21 v25)
    = matMargin (M := 5000) (N := 32000) (k0_pay3 (F := Ideal) v0 v3 v6 v21 v25) reduces_S5000x32000_S5000 shapeCasts_S5000_S5000x1
        broadcasts_S5000x1_S5000x32000 iota_S5000x32000_d1_w32 := by
  unfold k0_pay2 k0_pay6 matMargin
  rw [pay4_eq, pay5_eq]
  unfold matOff
  generalize k0_pay3 (F := Ideal) v0 v3 v6 v21 v25 = X
  unfold matTop
  rfl

theorem rows_many : (5000 : ℕ) ≠ 1 := by decide

/-- The greatest logit of a row, -/
theorem ref_top (p : Fin 5000) : k0_pay4 (F := Ideal) v0 v3 v6 v21 v25 (ix2 p 0) = top (refRow v0 v3 v6 v21 v25 p) := by
  rw [pay4_eq, matTop_at, refRow_fun, top_row]

/-- the first column where it stands, -/
theorem ref_tok (p : Fin 5000) : k0_pay5 (F := Ideal) v0 v3 v6 v21 v25 (ix2 p 0) = tok (refRow v0 v3 v6 v21 v25 p) := by
  rw [pay5_eq, matTok_at _ _ _ _ _ rows_many, refRow_fun, tok_row]

/-- and its margin over the greatest elsewhere. -/
theorem ref_margin (p : Fin 5000) :
    k0_pay2 (F := Ideal) (k0_pay3 v0 v3 v6 v21 v25) (k0_pay4 v0 v3 v6 v21 v25) (k0_pay6 v0 v3 v6 v21 v25) (ix2 p 0)
      = top (refRow v0 v3 v6 v21 v25 p) - runner (refRow v0 v3 v6 v21 v25 p) := by
  rw [pay2_eq, matMargin_at _ _ _ _ _ rows_many, refRow_fun, top_row, runner_row]

/-- The logits are stored with an axis of one between. -/
theorem pay1_eq (X : FVec Ideal S5000x32000 .f32) (p : Fin 5000) (q : Fin 32000) :
    k0_pay1 (F := Ideal) X (ix3 p 0 q) = X (ix2 p q) := by
  unfold k0_pay1
  exact cast_mid (M := 5000) (N := 32000) X shapeCasts_S5000x32000_S5000x1x32000 p q

variable (a0 : Vec Ideal S2x5120x2560 .i8) (a1 : Vec Ideal S5120 .f32) (a2 : Vec Ideal S32000x2560 .i8) (a3 : Vec Ideal S32000 .f32)

/-- A row of the reference as a row of the padded fields. -/
def padRow (p : Fin 5000) : Fin 5120 := ⟨p.val, Nat.lt_of_lt_of_le p.isLt (by decide)⟩

theorem ld_half0 (p : Fin 5000) (k : Fin 2560) : View.ld a0 Cert.ReferenceIdeal.Gen.r0_0 (ix3 0 p k) = a0 (ix3 0 (padRow p) k) := by
  refine congrArg a0 (funext fun a => Fin.ext ?_)
  match a with
  | ⟨0, _⟩ => rfl
  | ⟨1, _⟩ => show 0 + 1 * p.val = p.val; omega
  | ⟨2, _⟩ => show 0 + 1 * k.val = k.val; omega

theorem ld_half1 (p : Fin 5000) (k : Fin 2560) : View.ld a0 Cert.ReferenceIdeal.Gen.r0_1 (ix3 0 p k) = a0 (ix3 1 (padRow p) k) := by
  refine congrArg a0 (funext fun a => Fin.ext ?_)
  match a with
  | ⟨0, _⟩ => rfl
  | ⟨1, _⟩ => show 0 + 1 * p.val = p.val; omega
  | ⟨2, _⟩ => show 0 + 1 * k.val = k.val; omega

theorem ld_scale (p : Fin 5000) : View.ld a1 Cert.ReferenceIdeal.Gen.r0_3 (ix1 p) = a1 (ix1 (padRow p)) := by
  refine congrArg a1 (funext fun a => Fin.ext ?_)
  match a with
  | ⟨0, _⟩ => show 0 + 1 * p.val = p.val; omega

/-- The whole of the weights and of their scales is loaded. -/
theorem ref_loads : k0_pay7 (F := Ideal) a0 a1 a2 a3
      = k0_pay3 (View.ld a0 Cert.ReferenceIdeal.Gen.r0_0) (View.ld a0 Cert.ReferenceIdeal.Gen.r0_1) a2 (View.ld a1 Cert.ReferenceIdeal.Gen.r0_3) a3
    ∧ k0_pay8 (F := Ideal) a0 a1 a2 a3
      = k0_pay4 (View.ld a0 Cert.ReferenceIdeal.Gen.r0_0) (View.ld a0 Cert.ReferenceIdeal.Gen.r0_1) a2 (View.ld a1 Cert.ReferenceIdeal.Gen.r0_3) a3 := by
  unfold k0_pay7 k0_pay8
  rw [View.ld_unit_zero (S := S32000x2560) Cert.Value.Ref.hz2 _ a2, View.ld_unit_zero (S := S32000) Cert.Value.Ref.hz3 _ a3]
  exact ⟨rfl, rfl⟩

/-- A row of the reference is the logits of the padded row. -/
theorem ref_row (p : Fin 5000) :
    refRow (View.ld a0 Cert.ReferenceIdeal.Gen.r0_0) (View.ld a0 Cert.ReferenceIdeal.Gen.r0_1) a2 (View.ld a1 Cert.ReferenceIdeal.Gen.r0_3) a3 p
      = fun q => logit a0 a1 a2 a3 (padRow p) q := by
  funext q
  unfold refRow
  refine (ref_pay_at _ _ a2 _ a3 p q).trans ?_
  unfold logit
  exact congrArg₂ (fun a b : EReal => a * b * a3 (ix1 q))
    (congrArg₂ (fun x y => Real.toEReal (plain x y fun k => a2 (ix2 q k))) (funext fun k => congrArg code (ld_half0 a0 p k))
      (funext fun k => congrArg code (ld_half1 a0 p k)))
    (ld_scale a1 p)

/-- The reference's logits at an index. -/
theorem ref_at (p : Fin 5000) (q : Fin 32000) :
    Cert.Value.Ref.G4 (F := Ideal) a0 a1 a2 a3 (ix3 p 0 q) = logit a0 a1 a2 a3 (padRow p) q := by
  show k0_pay1 (F := Ideal) (k0_pay7 a0 a1 a2 a3) (ix3 p 0 q) = _
  rw [(ref_loads a0 a1 a2 a3).1]
  rw [pay1_eq, refRow_at, ref_row]

/-- The reference's logits are those of its arguments. -/
theorem ref_eq : Cert.Value.Ref.G4 (F := Ideal) a0 a1 a2 a3 = logits a0 a1 a2 a3 := by
  funext i
  have hi : i = (ix3 (i 0) (0 : Fin 1) (i 2) : S5000x1x32000.Idx) := by
    funext a
    match a with
    | ⟨0, _⟩ => rfl
    | ⟨1, _⟩ => exact Fin.ext (by have : (i (1 : Fin 3)).val < 1 := (i (1 : Fin 3)).isLt; show (i (1 : Fin 3)).val = 0; omega)
    | ⟨2, _⟩ => rfl
  exact (congrArg (Cert.Value.Ref.G4 (F := Ideal) a0 a1 a2 a3) hi).trans (ref_at a0 a1 a2 a3 (i 0) (i 2))

/-- The reference's tokens are those of its arguments. -/
theorem ref_tokens : Cert.Value.Ref.G5 (F := Ideal) a0 a1 a2 a3 = tokens a0 a1 a2 a3 := by
  funext i
  have hi : i = (ix2 (i 0) (0 : Fin 1) : S5000x1.Idx) := by
    funext a
    match a with
    | ⟨0, _⟩ => rfl
    | ⟨1, _⟩ => exact Fin.ext (by have : (i (1 : Fin 2)).val < 1 := (i (1 : Fin 2)).isLt; show (i (1 : Fin 2)).val = 0; omega)
  refine (congrArg (Cert.Value.Ref.G5 (F := Ideal) a0 a1 a2 a3) hi).trans ?_
  refine (ref_tok (View.ld a0 Cert.ReferenceIdeal.Gen.r0_0) (View.ld a0 Cert.ReferenceIdeal.Gen.r0_1) a2 (View.ld a1 Cert.ReferenceIdeal.Gen.r0_3) a3 (i 0)).trans ?_
  exact congrArg (fun g => tok g) (ref_row a0 a1 a2 a3 (i 0))

/-- The reference's margins are those of its arguments. -/
theorem ref_margins : Cert.Value.Ref.G6 (F := Ideal) a0 a1 a2 a3 = margins a0 a1 a2 a3 := by
  funext i
  have hi : i = (ix2 (i 0) (0 : Fin 1) : S5000x1.Idx) := by
    funext a
    match a with
    | ⟨0, _⟩ => rfl
    | ⟨1, _⟩ => exact Fin.ext (by have : (i (1 : Fin 2)).val < 1 := (i (1 : Fin 2)).isLt; show (i (1 : Fin 2)).val = 0; omega)
  refine (congrArg (Cert.Value.Ref.G6 (F := Ideal) a0 a1 a2 a3) hi).trans ?_
  show k0_pay2 (F := Ideal) (k0_pay7 a0 a1 a2 a3) (k0_pay8 a0 a1 a2 a3) _ _ = _
  rw [(ref_loads a0 a1 a2 a3).1, (ref_loads a0 a1 a2 a3).2]
  refine (ref_margin (View.ld a0 Cert.ReferenceIdeal.Gen.r0_0) (View.ld a0 Cert.ReferenceIdeal.Gen.r0_1) a2 (View.ld a1 Cert.ReferenceIdeal.Gen.r0_3) a3 (i 0)).trans ?_
  exact congrArg (fun g => top g - runner g) (ref_row a0 a1 a2 a3 (i 0))

/-- The reference's tops are those of its arguments. -/
theorem ref_tops : Cert.Value.Ref.G7 (F := Ideal) a0 a1 a2 a3 = tops a0 a1 a2 a3 := by
  funext i
  have hi : i = (ix2 (i 0) (0 : Fin 1) : S5000x1.Idx) := by
    funext a
    match a with
    | ⟨0, _⟩ => rfl
    | ⟨1, _⟩ => exact Fin.ext (by have : (i (1 : Fin 2)).val < 1 := (i (1 : Fin 2)).isLt; show (i (1 : Fin 2)).val = 0; omega)
  refine (congrArg (Cert.Value.Ref.G7 (F := Ideal) a0 a1 a2 a3) hi).trans ?_
  show k0_pay8 (F := Ideal) a0 a1 a2 a3 _ = _
  rw [(ref_loads a0 a1 a2 a3).2]
  refine (ref_top (View.ld a0 Cert.ReferenceIdeal.Gen.r0_0) (View.ld a0 Cert.ReferenceIdeal.Gen.r0_1) a2 (View.ld a1 Cert.ReferenceIdeal.Gen.r0_3) a3 (i 0)).trans ?_
  exact congrArg (fun g => top g) (ref_row a0 a1 a2 a3 (i 0))

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Value.Run
public import proofs.«01_k».proof.Proof.Kern.Run
public import proofs.«01_k».proof.Proof.Ideal.Run
public import proofs.«01_k».proof.Proof.Value.Logits
public import proofs.«01_k».proof.Proof.Value.Reference
public import Idealize.ShloMosaic.Adequacy
public import Idealize.ShloMosaic.Init

@[expose] public section

noncomputable section

namespace Cert.Proof

open Idealize.ShloMosaic Idealize.ShloMosaic.TcCoe Idealize.SL.Sem Cert.Kernel

/-- The kernel and the reference end with the same logits, tokens, margins and greatest logits. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.Value.logits (Cert.Value.fieldsOf m c) (Cert.Value.scaleOf m c) (Cert.Value.weightsOf m c) (Cert.Value.colScaleOf m c),
    fun c => Cert.Value.tokens (Cert.Value.fieldsOf m c) (Cert.Value.scaleOf m c) (Cert.Value.weightsOf m c) (Cert.Value.colScaleOf m c),
    fun c => Cert.Value.margins (Cert.Value.fieldsOf m c) (Cert.Value.scaleOf m c) (Cert.Value.weightsOf m c) (Cert.Value.colScaleOf m c),
    fun c => Cert.Value.tops (Cert.Value.fieldsOf m c) (Cert.Value.scaleOf m c) (Cert.Value.weightsOf m c) (Cert.Value.colScaleOf m c),
    Cert.Value.run m g, (θ_run _ _ _).mono (fun r h c => ⟨(h c).1.trans ?_, (h c).2.1.trans ?_, (h c).2.2.1.trans ?_, (h c).2.2.2.1.trans ?_, (h c).2.2.2.2⟩)
      (Cert.Value.Ref.run m' g')⟩
  · obtain ⟨e0, e1, e2, e3⟩ := hargs c
    rw [Cert.Value.ref_eq]
    exact (congrArg₂ (fun x y => Cert.Value.logits x y _ _) e0 e1).trans (congrArg₂ (fun x y => Cert.Value.logits _ _ x y) e2 e3)
  · obtain ⟨e0, e1, e2, e3⟩ := hargs c
    rw [Cert.Value.ref_tokens]
    exact (congrArg₂ (fun x y => Cert.Value.tokens x y _ _) e0 e1).trans (congrArg₂ (fun x y => Cert.Value.tokens _ _ x y) e2 e3)
  · obtain ⟨e0, e1, e2, e3⟩ := hargs c
    rw [Cert.Value.ref_margins]
    exact (congrArg₂ (fun x y => Cert.Value.margins x y _ _) e0 e1).trans (congrArg₂ (fun x y => Cert.Value.margins _ _ x y) e2 e3)
  · obtain ⟨e0, e1, e2, e3⟩ := hargs c
    rw [Cert.Value.ref_tops]
    exact (congrArg₂ (fun x y => Cert.Value.tops x y _ _) e0 e1).trans (congrArg₂ (fun x y => Cert.Value.tops _ _ x y) e2 e3)

theorem claim : Cert.Claim := ⟨Cert.Kernel.Gen.facts, Cert.KernelIdeal.Gen.facts, Cert.ReferenceIdeal.Gen.facts, by
  exact ⟨fun m g _ => Cert.Kernel.Body.frame m g, fun m g _ => Cert.KernelIdeal.Body.frame m g, fun m g _ => Cert.ReferenceIdeal.Gen.frame m g, trivial,
    algebraic⟩⟩

end Cert.Proof

end
